-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "log2p" .f32 0x41000000#32 ((8 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x8192x4096 : Shape := ⟨3, ![8, 8192, 4096]⟩
abbrev S8x8192x512 : Shape := ⟨3, ![8, 8192, 512]⟩
abbrev S16 : Shape := ⟨1, ![16]⟩
abbrev S2 : Shape := ⟨1, ![2]⟩
abbrev S2x8 : Shape := ⟨2, ![2, 8]⟩
abbrev S2x1 : Shape := ⟨2, ![2, 1]⟩
abbrev S_ : Shape := ⟨0, ![]⟩

class Facts : Prop where
  shapeCasts_S16_S2x8 : S16.ShapeCasts S2x8
  bcast_S2_S2x1_0 : S2.BroadcastsInDim S2x1 (![0] : Fin 1 → Fin S2x1.rank)
  bcast_S2x1_S2x8_0_1 : S2x1.BroadcastsInDim S2x8 (![0, 1] : Fin 2 → Fin S2x8.rank)
  bcast_S_S2x8 : S_.BroadcastsInDim S2x8 (![] : Fin 0 → Fin S2x8.rank)

variable [Facts]

def fn {F : FTy → Type} [FloatOps F] (main_arg0 : FVec F S8x8192x4096 .fp8e4m3) (main_arg1 : FVec F S8x8192x512 .fp8e4m3) (main_arg2 : FVec F S8x8192x512 .fp8e4m3) (main_arg3 : FVec F S16 .f32) (main_arg4 : FVec F S2 .f32) (main_arg5 : FVec F S2 .f32) : IVec S2x8 1 :=
  let main_v0 : FVec F S2x8 .f32 := shapeCast S2x8 main_arg3 shapeCasts_S16_S2x8
  let main_v1 : FVec F S2x1 .f32 := broadcastInDim S2x1 ![0] bcast_S2_S2x1_0 main_arg4
  let main_v2 : FVec F S2x8 .f32 := broadcastInDim S2x8 ![0, 1] bcast_S2x1_S2x8_0_1 main_v1
  let main_v3 : FVec F S2x8 .f32 := mulf main_v0 main_v2
  let main_cst : FVec F S_ .f32 := constant S_ .f32 0x00000000#32
  let main_v4 : FVec F S2x8 .f32 := broadcastInDim S2x8 ![] bcast_S_S2x8 main_cst
  let main_v5 : IVec S2x8 1 := cmpf .oge main_v3 main_v4
  main_v5
-- ==== Kernel.lean ====
abbrev S8x8192x4096 : Shape := ⟨3, ![8, 8192, 4096]⟩
abbrev S8x8192x512 : Shape := ⟨3, ![8, 8192, 512]⟩
abbrev S16 : Shape := ⟨1, ![16]⟩
abbrev S2 : Shape := ⟨1, ![2]⟩
abbrev S2x8 : Shape := ⟨2, ![2, 8]⟩
abbrev S2x1 : Shape := ⟨2, ![2, 1]⟩
abbrev S_ : Shape := ⟨0, ![]⟩
abbrev S1x128x2048 : Shape := ⟨3, ![1, 128, 2048]⟩
abbrev S1x8192x256 : Shape := ⟨3, ![1, 8192, 256]⟩
abbrev S1024x256 : Shape := ⟨2, ![1024, 256]⟩
abbrev S1024x128 : Shape := ⟨2, ![1024, 128]⟩
abbrev S1x1 : Shape := ⟨2, ![1, 1]⟩
abbrev S1x128x256 : Shape := ⟨3, ![1, 128, 256]⟩
abbrev S128x256 : Shape := ⟨2, ![128, 256]⟩
abbrev S128x128 : Shape := ⟨2, ![128, 128]⟩
abbrev S1x512x256 : Shape := ⟨3, ![1, 512, 256]⟩
abbrev S512x256 : Shape := ⟨2, ![512, 256]⟩
abbrev S1024x512 : Shape := ⟨2, ![1024, 512]⟩
abbrev S8x128x128 : Shape := ⟨3, ![8, 128, 128]⟩
abbrev S1024 : Shape := ⟨1, ![1024]⟩
abbrev S1024x1 : Shape := ⟨2, ![1024, 1]⟩
abbrev S1 : Shape := ⟨1, ![1]⟩

abbrev nBuf : Space → Nat
  | .hbm => 14
  | .vmem => 13
  | .smem => 2
  | _ => 0

abbrev bufTy : (tb : Table) → Fin (tcTables nBuf tb) → BufTy
  | .hbm, ⟨0, _⟩ => ⟨S8x8192x4096, .fp8e4m3⟩
  | .hbm, ⟨1, _⟩ => ⟨S8x8192x512, .fp8e4m3⟩
  | .hbm, ⟨2, _⟩ => ⟨S8x8192x512, .fp8e4m3⟩
  | .hbm, ⟨3, _⟩ => ⟨S16, .f32⟩
  | .hbm, ⟨4, _⟩ => ⟨S2, .f32⟩
  | .hbm, ⟨5, _⟩ => ⟨S2, .f32⟩
  | .hbm, ⟨6, _⟩ => ⟨S2x8, .f32⟩
  | .hbm, ⟨7, _⟩ => ⟨S2x1, .f32⟩
  | .hbm, ⟨8, _⟩ => ⟨S2x8, .f32⟩
  | .hbm, ⟨9, _⟩ => ⟨S2x8, .f32⟩
  | .hbm, ⟨10, _⟩ => ⟨S_, .f32⟩
  | .hbm, ⟨11, _⟩ => ⟨S2x8, .f32⟩
  | .hbm, ⟨12, _⟩ => ⟨S2x8, .f32⟩
  | .hbm, ⟨13, _⟩ => ⟨S8x8192x4096, .bf16⟩
  | .local _ .vmem, ⟨0, _⟩ => ⟨S1x128x2048, .fp8e4m3⟩
  | .local _ .vmem, ⟨1, _⟩ => ⟨S1x128x2048, .fp8e4m3⟩
  | .local _ .vmem, ⟨2, _⟩ => ⟨S1x8192x256, .fp8e4m3⟩
  | .local _ .vmem, ⟨3, _⟩ => ⟨S1x8192x256, .fp8e4m3⟩
  | .local _ .vmem, ⟨4, _⟩ => ⟨S1x8192x256, .fp8e4m3⟩
  | .local _ .vmem, ⟨5, _⟩ => ⟨S1x8192x256, .fp8e4m3⟩
  | .local _ .vmem, ⟨6, _⟩ => ⟨S1x128x2048, .bf16⟩
  | .local _ .vmem, ⟨7, _⟩ => ⟨S1x128x2048, .bf16⟩
  | .local _ .vmem, ⟨8, _⟩ => ⟨S1024x256, .fp8e4m3⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x256, .f32⟩
  | .local _ .smem, ⟨0, _⟩ => ⟨S2x8, .f32⟩
  | .local _ .smem, ⟨1, _⟩ => ⟨S2, .f32⟩
  | _, _ => ⟨S8x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 64], ![false, false, false]⟩

def k0_off1 (i : grid0.Coords) : Fin 2 → Nat :=
  let arg1 : BitVec 32 := BitVec.ofNat 32 (i 1).val
  let v18 : Index := Scalar.indexCast arg1
  let c0 : Index := 0#32
  ![v18.toNat, 0]
def k0_off2 (i : grid0.Coords) : Fin 2 → Nat :=
  let arg1 : BitVec 32 := BitVec.ofNat 32 (i 1).val
  let v35 : Index := Scalar.indexCast arg1
  let c1 : Index := 1#32
  ![v35.toNat, 1]
def k0_off3 (i : grid0.Coords) : Fin 2 → Nat :=
  let arg1 : BitVec 32 := BitVec.ofNat 32 (i 1).val
  let v52 : Index := Scalar.indexCast arg1
  let c2 : Index := 2#32
  ![v52.toNat, 2]
def k0_off4 (i : grid0.Coords) : Fin 2 → Nat :=
  let arg1 : BitVec 32 := BitVec.ofNat 32 (i 1).val
  let v69 : Index := Scalar.indexCast arg1
  let c3 : Index := 3#32
  ![v69.toNat, 3]
def k0_off5 (i : grid0.Coords) : Fin 2 → Nat :=
  let arg1 : BitVec 32 := BitVec.ofNat 32 (i 1).val
  let v86 : Index := Scalar.indexCast arg1
  let c4 : Index := 4#32
  ![v86.toNat, 4]
def k0_off6 (i : grid0.Coords) : Fin 2 → Nat :=
  let arg1 : BitVec 32 := BitVec.ofNat 32 (i 1).val
  let v103 : Index := Scalar.indexCast arg1
  let c5 : Index := 5#32
  ![v103.toNat, 5]
def k0_off7 (i : grid0.Coords) : Fin 2 → Nat :=
  let arg1 : BitVec 32 := BitVec.ofNat 32 (i 1).val
  let v120 : Index := Scalar.indexCast arg1
  let c6 : Index := 6#32
  ![v120.toNat, 6]
def k0_off8 (i : grid0.Coords) : Fin 2 → Nat :=
  let arg1 : BitVec 32 := BitVec.ofNat 32 (i 1).val
  let v137 : Index := Scalar.indexCast arg1
  let c7 : Index := 7#32
  ![v137.toNat, 7]
@[reducible] def k0_t1_loop (i : grid0.Coords) : Scf.Loop 32 :=
  let c0_i32_75 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v158 : BitVec 32 := Scalar.subi v17 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let c1_i32_77 : BitVec 32 := 1#32
  ⟨c0_i32_75, v162, c1_i32_77⟩
def k0_mult1 (i : grid0.Coords) (k0_t1 : Fin (k0_t1_loop i).trips) : BitVec 32 :=
  let c0_i32_75 : BitVec 32 := 0#32
  let c1_i32_77 : BitVec 32 := 1#32
  let arg14 : BitVec 32 := Scf.iv c0_i32_75 c1_i32_77 k0_t1
  let c512_i32_181 : BitVec 32 := 512#32
  let v411 : BitVec 32 := Scalar.muli arg14 c512_i32_181
  v411
def k0_off9 (i : grid0.Coords) (k0_t1 : Fin (k0_t1_loop i).trips) : Fin 3 → Nat :=
  let c0_184 : Index := 0#32
  let c0_i32_75 : BitVec 32 := 0#32
  let c1_i32_77 : BitVec 32 := 1#32
  let arg14 : BitVec 32 := Scf.iv c0_i32_75 c1_i32_77 k0_t1
  let c512_i32_181 : BitVec 32 := 512#32
  let v411 : BitVec 32 := Scalar.muli arg14 c512_i32_181
  let v412 : BitVec 32 := v411
  let v414 : Index := Scalar.indexCast v412
  let c0_185 : Index := 0#32
  ![0, v414.toNat, 0]
@[reducible] def k0_t2_loop (i : grid0.Coords) : Scf.Loop 32 :=
  let c0_i32_75 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v158 : BitVec 32 := Scalar.subi v17 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let v159 : BitVec 32 := Scalar.addi c0_i32_75 v158
  let c1_i32_78 : BitVec 32 := 1#32
  ⟨v162, v159, c1_i32_78⟩
def k0_mult2 (i : grid0.Coords) (k0_t2 : Fin (k0_t2_loop i).trips) : BitVec 32 :=
  let c0_i32_75 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v158 : BitVec 32 := Scalar.subi v17 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let c1_i32_78 : BitVec 32 := 1#32
  let arg14 : BitVec 32 := Scf.iv v162 c1_i32_78 k0_t2
  let c512_i32_181 : BitVec 32 := 512#32
  let v411 : BitVec 32 := Scalar.muli arg14 c512_i32_181
  v411
def k0_off10 (i : grid0.Coords) (k0_t2 : Fin (k0_t2_loop i).trips) : Fin 3 → Nat :=
  let c0_184 : Index := 0#32
  let c0_i32_75 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v158 : BitVec 32 := Scalar.subi v17 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let c1_i32_78 : BitVec 32 := 1#32
  let arg14 : BitVec 32 := Scf.iv v162 c1_i32_78 k0_t2
  let c512_i32_181 : BitVec 32 := 512#32
  let v411 : BitVec 32 := Scalar.muli arg14 c512_i32_181
  let v412 : BitVec 32 := v411
  let v414 : Index := Scalar.indexCast v412
  let c0_185 : Index := 0#32
  ![0, v414.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_79 : BitVec 32 := 512#32
  let v163 : BitVec 32 := Scalar.muli v17 c512_i32_79
  v163
def k0_off11 (i : grid0.Coords) : Fin 3 → Nat :=
  let c0_82 : Index := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_79 : BitVec 32 := 512#32
  let v163 : BitVec 32 := Scalar.muli v17 c512_i32_79
  let v164 : BitVec 32 := v163
  let v166 : Index := Scalar.indexCast v164
  let c0_83 : Index := 0#32
  ![0, v166.toNat, 0]
@[reducible] def k0_t3_loop (i : grid0.Coords) : Scf.Loop 32 :=
  let c0_i32_109 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v246 : BitVec 32 := Scalar.subi v17 c0_i32_109
  let c1_i32_110 : BitVec 32 := 1#32
  let v248 : BitVec 32 := Scalar.divsi v246 c1_i32_110
  let v249 : BitVec 32 := Scalar.muli v248 c1_i32_110
  let v250 : BitVec 32 := Scalar.addi c0_i32_109 v249
  let c1_i32_111 : BitVec 32 := 1#32
  ⟨c0_i32_109, v250, c1_i32_111⟩
def k0_mult4 (i : grid0.Coords) (k0_t3 : Fin (k0_t3_loop i).trips) : BitVec 32 :=
  let c0_i32_109 : BitVec 32 := 0#32
  let c1_i32_111 : BitVec 32 := 1#32
  let arg14 : BitVec 32 := Scf.iv c0_i32_109 c1_i32_111 k0_t3
  let c512_i32_181 : BitVec 32 := 512#32
  let v411 : BitVec 32 := Scalar.muli arg14 c512_i32_181
  v411
def k0_off12 (i : grid0.Coords) (k0_t3 : Fin (k0_t3_loop i).trips) : Fin 3 → Nat :=
  let c0_184 : Index := 0#32
  let c0_i32_109 : BitVec 32 := 0#32
  let c1_i32_111 : BitVec 32 := 1#32
  let arg14 : BitVec 32 := Scf.iv c0_i32_109 c1_i32_111 k0_t3
  let c512_i32_181 : BitVec 32 := 512#32
  let v411 : BitVec 32 := Scalar.muli arg14 c512_i32_181
  let v412 : BitVec 32 := v411
  let v414 : Index := Scalar.indexCast v412
  let c0_185 : Index := 0#32
  ![0, v414.toNat, 0]
@[reducible] def k0_t4_loop (i : grid0.Coords) : Scf.Loop 32 :=
  let c0_i32_109 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v246 : BitVec 32 := Scalar.subi v17 c0_i32_109
  let c1_i32_110 : BitVec 32 := 1#32
  let v248 : BitVec 32 := Scalar.divsi v246 c1_i32_110
  let v249 : BitVec 32 := Scalar.muli v248 c1_i32_110
  let v250 : BitVec 32 := Scalar.addi c0_i32_109 v249
  let v247 : BitVec 32 := Scalar.addi c0_i32_109 v246
  let c1_i32_112 : BitVec 32 := 1#32
  ⟨v250, v247, c1_i32_112⟩
def k0_mult5 (i : grid0.Coords) (k0_t4 : Fin (k0_t4_loop i).trips) : BitVec 32 :=
  let c0_i32_109 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v246 : BitVec 32 := Scalar.subi v17 c0_i32_109
  let c1_i32_110 : BitVec 32 := 1#32
  let v248 : BitVec 32 := Scalar.divsi v246 c1_i32_110
  let v249 : BitVec 32 := Scalar.muli v248 c1_i32_110
  let v250 : BitVec 32 := Scalar.addi c0_i32_109 v249
  let c1_i32_112 : BitVec 32 := 1#32
  let arg14 : BitVec 32 := Scf.iv v250 c1_i32_112 k0_t4
  let c512_i32_181 : BitVec 32 := 512#32
  let v411 : BitVec 32 := Scalar.muli arg14 c512_i32_181
  v411
def k0_off13 (i : grid0.Coords) (k0_t4 : Fin (k0_t4_loop i).trips) : Fin 3 → Nat :=
  let c0_184 : Index := 0#32
  let c0_i32_109 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v246 : BitVec 32 := Scalar.subi v17 c0_i32_109
  let c1_i32_110 : BitVec 32 := 1#32
  let v248 : BitVec 32 := Scalar.divsi v246 c1_i32_110
  let v249 : BitVec 32 := Scalar.muli v248 c1_i32_110
  let v250 : BitVec 32 := Scalar.addi c0_i32_109 v249
  let c1_i32_112 : BitVec 32 := 1#32
  let arg14 : BitVec 32 := Scf.iv v250 c1_i32_112 k0_t4
  let c512_i32_181 : BitVec 32 := 512#32
  let v411 : BitVec 32 := Scalar.muli arg14 c512_i32_181
  let v412 : BitVec 32 := v411
  let v414 : Index := Scalar.indexCast v412
  let c0_185 : Index := 0#32
  ![0, v414.toNat, 0]
def k0_mult6 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_113 : BitVec 32 := 512#32
  let v251 : BitVec 32 := Scalar.muli v17 c512_i32_113
  v251
def k0_off14 (i : grid0.Coords) : Fin 1 → Nat :=
  let arg1 : BitVec 32 := BitVec.ofNat 32 (i 1).val
  let v364 : Index := Scalar.indexCast arg1
  ![v364.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "log2p" => some ((8 : ℝ) : EReal)
  | _ => none
-- ==== ReferenceIdeal.lean ====
abbrev S8x8192x4096 : Shape := ⟨3, ![8, 8192, 4096]⟩
abbrev S8x8192x512 : Shape := ⟨3, ![8, 8192, 512]⟩
abbrev S16 : Shape := ⟨1, ![16]⟩
abbrev S2 : Shape := ⟨1, ![2]⟩
abbrev S2x8 : Shape := ⟨2, ![2, 8]⟩
abbrev S2x1 : Shape := ⟨2, ![2, 1]⟩
abbrev S_ : Shape := ⟨0, ![]⟩
abbrev S8x8192x2x8x256 : Shape := ⟨5, ![8, 8192, 2, 8, 256]⟩
abbrev S8x8192x2x256 : Shape := ⟨4, ![8, 8192, 2, 256]⟩
abbrev S8x2x8192x8192x8 : Shape := ⟨5, ![8, 2, 8192, 8192, 8]⟩
abbrev S8x2x8x8192x8192 : Shape := ⟨5, ![8, 2, 8, 8192, 8192]⟩
abbrev S1x2x8x1x1 : Shape := ⟨5, ![1, 2, 8, 1, 1]⟩
abbrev S8192x8192 : Shape := ⟨2, ![8192, 8192]⟩
abbrev S1x1x1x8192x8192 : Shape := ⟨5, ![1, 1, 1, 8192, 8192]⟩
abbrev S8x2x8x8192 : Shape := ⟨4, ![8, 2, 8, 8192]⟩
abbrev S8x2x8x8192x1 : Shape := ⟨5, ![8, 2, 8, 8192, 1]⟩
abbrev S8x2x256x8x8192 : Shape := ⟨5, ![8, 2, 256, 8, 8192]⟩
abbrev S1x1x2x1x1 : Shape := ⟨5, ![1, 1, 2, 1, 1]⟩
abbrev S8x8192x2x8x1 : Shape := ⟨5, ![8, 8192, 2, 8, 1]⟩

abbrev nBuf : Space → Nat
  | .hbm => 14
  | .vmem => 6
  | .smem => 0
  | _ => 0

abbrev bufTy : (tb : Table) → Fin (tcTables nBuf tb) → BufTy
  | .hbm, ⟨0, _⟩ => ⟨S8x8192x4096, .fp8e4m3⟩
  | .hbm, ⟨1, _⟩ => ⟨S8x8192x512, .fp8e4m3⟩
  | .hbm, ⟨2, _⟩ => ⟨S8x8192x512, .fp8e4m3⟩
  | .hbm, ⟨3, _⟩ => ⟨S16, .f32⟩
  | .hbm, ⟨4, _⟩ => ⟨S2, .f32⟩
  | .hbm, ⟨5, _⟩ => ⟨S2, .f32⟩
  | .hbm, ⟨6, _⟩ => ⟨S2x8, .f32⟩
  | .hbm, ⟨7, _⟩ => ⟨S2x1, .f32⟩
  | .hbm, ⟨8, _⟩ => ⟨S2x8, .f32⟩
  | .hbm, ⟨9, _⟩ => ⟨S2x8, .f32⟩
  | .hbm, ⟨10, _⟩ => ⟨S_, .f32⟩
  | .hbm, ⟨11, _⟩ => ⟨S2x8, .f32⟩
  | .hbm, ⟨12, _⟩ => ⟨S2x8, .f32⟩
  | .hbm, ⟨13, _⟩ => ⟨S8x8192x4096, .bf16⟩
  | .local _ .vmem, ⟨0, _⟩ => ⟨S2x8, .f32⟩
  | .local _ .vmem, ⟨1, _⟩ => ⟨S2, .f32⟩
  | .local _ .vmem, ⟨2, _⟩ => ⟨S8x8192x4096, .fp8e4m3⟩
  | .local _ .vmem, ⟨3, _⟩ => ⟨S8x8192x512, .fp8e4m3⟩
  | .local _ .vmem, ⟨4, _⟩ => ⟨S8x8192x512, .fp8e4m3⟩
  | .local _ .vmem, ⟨5, _⟩ => ⟨S8x8192x4096, .bf16⟩
  | _, _ => ⟨S8x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
module

public import proofs.«01_k».proof.Proof.Gen.KernelIdeal.Value
public import Idealize.ShloMosaic.Lib.ValueIdx

@[expose] public section

set_option maxRecDepth 16384

noncomputable section

/-! The kernel's index words at a grid point: with `q` the query block, `q / 4` key tiles lie wholly below the
diagonal, so both loops make `q / 4` trips, and the remaining tile starts at column `512 * (q / 4)`. -/

namespace Cert.Attn

open Idealize.ShloMosaic Cert.KernelIdeal Cert.KernelIdeal.Gen

variable (i : grid0.Coords)

/-- The query block's number is below 64. -/
theorem qi_lt : (i 2).val < 64 := (i 2).isLt
/-- The key/value group's number is below 2. -/
theorem gi_lt : (i 1).val < 2 := (i 1).isLt

/-- The first loop makes `q / 4` trips. -/
theorem trips1 : (k0_t1_loop i).trips = (i 2).val / 4 := by
  unfold k0_t1_loop
  dsimp only
  generalize hq : (i 2).val = q
  have h : q < 64 := hq ▸ qi_lt i
  clear hq
  revert q
  decide +kernel

/-- The first loop's remainder loop makes no trip. -/
theorem trips2 : (k0_t2_loop i).trips = 0 := by
  unfold k0_t2_loop
  dsimp only
  generalize hq : (i 2).val = q
  have h : q < 64 := hq ▸ qi_lt i
  clear hq
  revert q
  decide +kernel

/-- The second pass's loop makes `q / 4` trips. -/
theorem trips3 : (k0_t3_loop i).trips = (i 2).val / 4 := by
  unfold k0_t3_loop
  dsimp only
  generalize hq : (i 2).val = q
  have h : q < 64 := hq ▸ qi_lt i
  clear hq
  revert q
  decide +kernel

/-- Its remainder loop makes no trip. -/
theorem trips4 : (k0_t4_loop i).trips = 0 := by
  unfold k0_t4_loop
  dsimp only
  generalize hq : (i 2).val = q
  have h : q < 64 := hq ▸ qi_lt i
  clear hq
  revert q
  decide +kernel

/-- The word of the first key column of the diagonal tile. -/
theorem kstart_toNat : (kernelRun0_A.sl.v163 i) = BitVec.ofNat 32 (512 * ((i 2).val / 4)) := by
  unfold kernelRun0_A.sl.v163 kernelRun0_A.sl.v17 kernelRun0_A.sl.v15 kernelRun0_A.sl.v16 kernelRun0_A.sl.v12 kernelRun0_A.sl.v14 kernelRun0_A.sl.v13 kernelRun0_A.sl.v6 kernelRun0_A.sl.v3 kernelRun0_A.sl.v5 kernelRun0_A.sl.v2 kernelRun0_A.sl.v4 kernelRun0_A.sl.v1 kernelRun0_A.sl.v0
  generalize hq : (i 2).val = q
  have h : q < 64 := hq ▸ qi_lt i
  clear hq
  revert q
  decide +kernel

/-- The diagonal tile's offsets. -/
theorem off11_eq : k0_off11 i = ![0, 512 * ((i 2).val / 4), 0] := by
  unfold k0_off11
  dsimp only
  generalize hq : (i 2).val = q
  have h : q < 64 := hq ▸ qi_lt i
  clear hq
  revert q
  decide +kernel

/-- A tile's offsets in the first loop. -/
theorem off9_eq (k : Fin (k0_t1_loop i).trips) : k0_off9 i k = ![0, 512 * k.val, 0] := by
  have hk : k.val < 16 := by have := lt_of_lt_of_eq k.isLt (trips1 i); have := qi_lt i; omega
  unfold k0_off9
  dsimp only
  generalize hq : (k : ℕ) = q at *
  clear hq
  revert q
  decide +kernel

/-- A tile's offsets in the second pass's loop. -/
theorem off12_eq (k : Fin (k0_t3_loop i).trips) : k0_off12 i k = ![0, 512 * k.val, 0] := by
  have hk : k.val < 16 := by have := lt_of_lt_of_eq k.isLt (trips3 i); have := qi_lt i; omega
  unfold k0_off12
  dsimp only
  generalize hq : (k : ℕ) = q at *
  clear hq
  revert q
  decide +kernel

end Cert.Attn

end
-- ==== Proof.Math.lean ====
module

public import Idealize.ShloMosaic.PureOps.Ideal
public import Mathlib.Data.EReal.Inv
public import Mathlib.Analysis.SpecialFunctions.Pow.Real

@[expose] public section

set_option maxRecDepth 16384

noncomputable section

/-! One output entry on the extended reals, as each program computes it, and why the two are equal.

A row of scores is a function `S` of the key position, `V` the column of values, `q` the query position (key `k` is
attended when `k ≤ q`), `c` the head's product of scales and `vs` the value scale. -/

namespace Cert.Attn

open Idealize.ShloMosaic

theorem exp_bot : Ideal.exp ⊥ = 0 := rfl
theorem exp2_bot : Ideal.exp2 ⊥ = 0 := rfl

/-- `log2 e`, the exact number. -/
abbrev lg : EReal := (((Real.log 2)⁻¹ : ℝ) : EReal)

/-- The largest attended score of a row. -/
def rowMax (S : ℕ → EReal) (q : ℕ) : EReal :=
  (Finset.range 8192).sup fun k => if k ≤ q then S k else ⊥

/-- The kernel's weight of key `k`: 256 times the softmax numerator, as a power of two. -/
def kW (c : EReal) (S : ℕ → EReal) (q k : ℕ) : EReal :=
  Ideal.exp2 (if k ≤ q then S k * (c * lg) - (rowMax S q * (c * lg) - (8 : ℝ)) else ⊥)

/-- The saturation to the range of fp8 before the quantisation. -/
def sat (x : EReal) : EReal := min ((448 : ℝ) : EReal) (max ((-448 : ℝ) : EReal) x)

/-- The kernel's output entry. -/
def kOut (c vs : EReal) (S V : ℕ → EReal) (q : ℕ) : EReal :=
  Ideal.div ((∑ k ∈ Finset.range 8192, sat (kW c S q k) * V k) * (vs * ((1 / 256 : ℝ) : EReal)))
    ((∑ k ∈ Finset.range 8192, kW c S q k) * ((1 / 256 : ℝ) : EReal))

/-- The reference's row maximum of the scaled, masked scores. -/
def rMax (c : EReal) (S : ℕ → EReal) (q : ℕ) : EReal :=
  (Finset.range 8192).sup fun k => if k ≤ q then S k * c else ⊥

/-- The reference's softmax numerator of key `k`. -/
def rW (c : EReal) (S : ℕ → EReal) (q k : ℕ) : EReal :=
  Ideal.exp ((if k ≤ q then S k * c else ⊥) - rMax c S q)

/-- The reference's output entry. -/
def rOut (c vs : EReal) (S V : ℕ → EReal) (q : ℕ) : EReal :=
  Ideal.div ((∑ k ∈ Finset.range 8192, sat (rW c S q k * (256 : ℝ)) * V k) * (vs * ((1 / 256 : ℝ) : EReal)))
    (∑ k ∈ Finset.range 8192, rW c S q k)

/-- Scaling by a product of scales that is not negative commutes with the row maximum. -/
theorem rMax_eq (c : EReal) (hc : 0 ≤ c) (S : ℕ → EReal) (q : ℕ) : rMax c S q = rowMax S q * c := by
  have hne : (Finset.range 8192).Nonempty := ⟨0, by simp⟩
  obtain ⟨k₀, hm, hk₀⟩ : ∃ k₀ ∈ Finset.range 8192, rowMax S q = if k₀ ≤ q then S k₀ else ⊥ :=
    Finset.exists_mem_eq_sup _ hne _
  have hle : ∀ k, k < 8192 → k ≤ q → S k ≤ rowMax S q := fun k hk hkq => by
    have := Finset.le_sup (f := fun k => if k ≤ q then S k else ⊥) (Finset.mem_range.2 hk)
    simpa [rowMax, hkq] using this
  apply le_antisymm
  · refine Finset.sup_le fun k hk => ?_
    split_ifs with h
    · exact mul_le_mul_of_nonneg_right (hle k (Finset.mem_range.1 hk) h) hc
    · exact bot_le
  · have h0 : ∃ k₁ < 8192, k₁ ≤ q ∧ rowMax S q = S k₁ := by
      by_cases h : k₀ ≤ q
      · exact ⟨k₀, Finset.mem_range.1 hm, h, by rw [hk₀, if_pos h]⟩
      · refine ⟨0, by norm_num, Nat.zero_le _, ?_⟩
        rw [if_neg h] at hk₀
        have := hle 0 (by norm_num) (Nat.zero_le _)
        rw [hk₀] at this ⊢
        exact (le_bot_iff.1 this).symm
    obtain ⟨k₁, hk₁, hq, e⟩ := h0
    rw [e]
    have := Finset.le_sup (f := fun k => if k ≤ q then S k * c else ⊥) (Finset.mem_range.2 hk₁)
    simpa [rMax, hq] using this

/-- `2 ^ (a · log2 e − (b · log2 e − 8)) = 256 · e ^ (a − b)` for `a ≤ b`, infinities included. -/
theorem exp2_shift (a b : EReal) (h : a ≤ b) :
    Ideal.exp2 (a * lg - (b * lg - (8 : ℝ))) = Ideal.exp (a - b) * (256 : ℝ) := by
  have hl : (0 : ℝ) < (Real.log 2)⁻¹ := inv_pos.2 (Real.log_pos (by norm_num))
  induction a using EReal.rec with
  | bot =>
    rw [EReal.bot_mul_coe_of_pos hl, sub_eq_add_neg, EReal.bot_add, sub_eq_add_neg ⊥ b, EReal.bot_add]
    rw [exp2_bot, exp_bot, zero_mul]
  | top =>
    obtain rfl := top_le_iff.1 h
    rw [EReal.top_mul_coe_of_pos hl]
    have h8 : (⊤ : EReal) - ((8 : ℝ) : EReal) = ⊤ := EReal.top_sub_coe 8
    rw [h8, EReal.sub_top]
    rw [exp2_bot, exp_bot, zero_mul]
  | coe a =>
    induction b using EReal.rec with
    | bot => exact absurd h (by simp)
    | top =>
      rw [EReal.top_mul_coe_of_pos hl, EReal.top_sub_coe, EReal.sub_top, EReal.sub_top]
      rw [exp2_bot, exp_bot, zero_mul]
    | coe b =>
      have e1 : (a : EReal) * lg - ((b : EReal) * lg - (8 : ℝ))
          = ((a * (Real.log 2)⁻¹ - (b * (Real.log 2)⁻¹ - 8) : ℝ) : EReal) := by push_cast; rfl
      have e2 : (a : EReal) - (b : EReal) = ((a - b : ℝ) : EReal) := by push_cast; rfl
      rw [e1, e2]
      show ((Real.rpow 2 _ : ℝ) : EReal) = ((Real.exp _ : ℝ) : EReal) * _
      rw [← EReal.coe_mul]
      refine congrArg Real.toEReal ?_
      show (2 : ℝ) ^ (a * (Real.log 2)⁻¹ - (b * (Real.log 2)⁻¹ - 8)) = Real.exp (a - b) * 256
      have : (a * (Real.log 2)⁻¹ - (b * (Real.log 2)⁻¹ - 8) : ℝ) = (a - b) * (Real.log 2)⁻¹ + (8 : ℕ) := by push_cast; ring
      rw [this, Real.rpow_add_natCast (by norm_num), Real.rpow_def_of_pos (by norm_num)]
      have hne : Real.log 2 ≠ 0 := ne_of_gt (Real.log_pos (by norm_num))
      rw [show Real.log 2 * ((a - b) * (Real.log 2)⁻¹) = a - b by field_simp]
      norm_num

/-- The kernel's weight is 256 times the reference's numerator. -/
theorem kW_eq (c : EReal) (hc : 0 ≤ c) (S : ℕ → EReal) (q k : ℕ) (hk : k < 8192) : kW c S q k = rW c S q k * (256 : ℝ) := by
  unfold kW rW
  rw [rMax_eq c hc]
  split_ifs with h
  · rw [← mul_assoc, ← mul_assoc]
    refine exp2_shift _ _ (mul_le_mul_of_nonneg_right ?_ hc)
    have := Finset.le_sup (f := fun k => if k ≤ q then S k else ⊥) (Finset.mem_range.2 hk)
    simpa [rowMax, h] using this
  · rw [sub_eq_add_neg, EReal.bot_add]
    rw [exp2_bot, exp_bot, zero_mul]

/-- The reference's numerator is a real number. -/
theorem rW_real (c : EReal) (hc : 0 ≤ c) (S : ℕ → EReal) (q k : ℕ) (hk : k < 8192) : ∃ r : ℝ, rW c S q k = (r : EReal) := by
  have hle : (if k ≤ q then S k * c else ⊥) ≤ rMax c S q :=
    Finset.le_sup (f := fun k => if k ≤ q then S k * c else ⊥) (Finset.mem_range.2 hk)
  unfold rW
  generalize (if k ≤ q then S k * c else ⊥) = a at *
  generalize rMax c S q = b at *
  induction a using EReal.rec with
  | bot => exact ⟨0, by rw [sub_eq_add_neg, EReal.bot_add]; rw [exp_bot]; rfl⟩
  | top => obtain rfl := top_le_iff.1 hle; exact ⟨0, by rw [EReal.sub_top]; rw [exp_bot]; rfl⟩
  | coe a =>
    induction b using EReal.rec with
    | bot => exact absurd hle (by simp)
    | top => exact ⟨0, by rw [EReal.sub_top]; rw [exp_bot]; rfl⟩
    | coe b => exact ⟨Real.exp (a - b), by rw [← EReal.coe_sub]; rfl⟩

/-- **The two output entries are equal** when the product of scales is not negative. -/
theorem kOut_eq_rOut (c vs : EReal) (hc : 0 ≤ c) (S V : ℕ → EReal) (q : ℕ) : kOut c vs S V q = rOut c vs S V q := by
  unfold kOut rOut
  have h1 : ∀ k ∈ Finset.range 8192, sat (kW c S q k) * V k = sat (rW c S q k * (256 : ℝ)) * V k := fun k hk => by
    rw [kW_eq c hc S q k (Finset.mem_range.1 hk)]
  have h2 : (∑ k ∈ Finset.range 8192, kW c S q k) * ((1 / 256 : ℝ) : EReal) = ∑ k ∈ Finset.range 8192, rW c S q k := by
    choose! r hr using fun k (hk : k < 8192) => rW_real c hc S q k hk
    have e1 : ∀ k ∈ Finset.range 8192, kW c S q k = ((r k * 256 : ℝ) : EReal) := fun k hk => by
      rw [kW_eq c hc S q k (Finset.mem_range.1 hk), hr k (Finset.mem_range.1 hk), EReal.coe_mul]
    have e2 : ∀ k ∈ Finset.range 8192, rW c S q k = ((r k : ℝ) : EReal) := fun k hk => hr k (Finset.mem_range.1 hk)
    have hs : ∀ (f : ℕ → ℝ) (s : Finset ℕ), (∑ k ∈ s, ((f k : ℝ) : EReal)) = ((∑ k ∈ s, f k : ℝ) : EReal) := fun f s => by
      induction s using Finset.induction_on with
      | empty => simp
      | insert a s ha ih => rw [Finset.sum_insert ha, Finset.sum_insert ha, ih, EReal.coe_add]
    rw [Finset.sum_congr rfl e1, Finset.sum_congr rfl e2, hs, hs, ← EReal.coe_mul, ← Finset.sum_mul]
    congr 1
    ring
  rw [Finset.sum_congr rfl h1, h2]

/-! Cutting a row of `128 * n` columns into `n` groups of 128 lanes, and into tiles of 512. -/

/-- A sum over `m * n` columns, lane by lane. -/
theorem sum_groups (f : ℕ → EReal) (m n : ℕ) :
    ∑ k ∈ Finset.range (m * n), f k = ∑ t ∈ Finset.range n, ∑ l ∈ Finset.range m, f (m * t + l) := by
  induction n with
  | zero => simp
  | succ n ih => rw [Nat.mul_succ, Finset.sum_range_add, ih, Finset.sum_range_succ]

/-- The maximum over the lanes of each lane's maximum is the maximum over all columns. -/
theorem sup_lanes (f : ℕ → EReal) (n : ℕ) :
    (Finset.range 128).sup (fun l => (Finset.range n).sup fun t => f (128 * t + l)) = (Finset.range (128 * n)).sup f := by
  apply le_antisymm
  · refine Finset.sup_le fun l hl => Finset.sup_le fun t ht => ?_
    have := Finset.mem_range.1 hl; have := Finset.mem_range.1 ht
    exact Finset.le_sup (f := f) (Finset.mem_range.2 (by omega))
  · refine Finset.sup_le fun k hk => ?_
    have := Finset.mem_range.1 hk
    have e : f k = f (128 * (k / 128) + k % 128) := congrArg f (by omega)
    rw [e]
    exact le_trans (Finset.le_sup (f := fun t => f (128 * t + k % 128)) (Finset.mem_range.2 (by omega)))
      (Finset.le_sup (f := fun l => (Finset.range n).sup fun t => f (128 * t + l)) (Finset.mem_range.2 (by omega)))

end Cert.Attn

end
-- ==== Proof.Tile.lean ====
module

public import proofs.«01_k».proof.Proof.Gen.KernelIdeal.Value
public import proofs.«01_k».proof.Proof.Words
public import proofs.«01_k».proof.Proof.Math
public import Idealize.ShloMosaic.Lib.ValueIdx
public import Idealize.ShloMosaic.Lib.VecWindow
public import Idealize.ShloMosaic.Lib.Pointwise

@[expose] public section

set_option maxRecDepth 16384

noncomputable section

namespace Cert.Attn

open Idealize.ShloMosaic Cert.KernelIdeal Cert.KernelIdeal.Gen

/-- The score of row `r` against row `j` of a key tile. -/
def score (q : Vec Ideal S1024x256 .fp8e4m3) (kt : Vec Ideal S1x512x256 .fp8e4m3) (r : Fin 1024) (j : Fin 512) : EReal :=
  ∑ d : Fin 256, q (ix2 r d) * kt (ix3 0 j d)

/-- Minus infinity. -/
theorem ninf : Ideal.ofBits .f32 0xFF800000#32 = (⊥ : EReal) := by
  simp [Ideal.ofBits, Ideal.ieee]
/-- The lower saturation bound. -/
theorem n448 : Ideal.ofBits .f32 0xC3E00000#32 = ((-448 : ℝ) : EReal) := by
  simp [Ideal.ofBits, Ideal.ieee, -EReal.coe_mul]; norm_num
/-- The upper saturation bound. -/
theorem p448 : Ideal.ofBits .f32 0x43E00000#32 = ((448 : ℝ) : EReal) := by
  simp [Ideal.ofBits, Ideal.ieee, -EReal.coe_mul]; norm_num
/-- The constant the kernel names `log2p` is 8. -/
theorem log2p_eq : (Named.named κ "log2p" 0x41000000#32 : Ideal .f32) = ((8:ℝ):EReal) := IdealRules.named_const.ideal_named_scalar _ _ _ _ rfl

/-- A fold by `max` from minus infinity is a supremum. -/
theorem fold_max_sup {n : ℕ} (f : Fin n → EReal) : Finset.fold max ⊥ f Finset.univ = Finset.univ.sup f := rfl

/-- What the second pass subtracts: the row maximum, scaled, less 8. -/
theorem pay53_apply (m cS : Vec Ideal S1024x128 .f32) (r : Fin 1024) (l : Fin 128) :
    k0_pay53 (F := Ideal) m cS (ix2 r l) = (Finset.univ.sup fun l => m (ix2 r l)) * cS (ix2 r l) - ((8:ℝ):EReal) := by
  pointwise [k0_pay53]
  rw [ninf, log2p_eq, fold_max_sup]
/-- The running maxima start at minus infinity. -/
theorem pay44_apply (j : S1024x128.Idx) : k0_pay44 (F := Ideal) j = (⊥ : EReal) := by
  pointwise [k0_pay44]
  exact ninf
/-- The last 128 lanes of the diagonal tile enter the running maxima. -/
theorem pay52_apply (a b : FVec Ideal S1024x128 .f32) (p : IVec S1024x128 1) (j : S1024x128.Idx) : k0_pay52 (F := Ideal) a b p j = max (a j) (Scalar.select (p j) (b j) (⊥ : EReal)) := by
  pointwise [k0_pay52]
  rw [ninf]
/-- The denominators start at zero. -/
theorem pay54_apply (j : S1024x128.Idx) : k0_pay54 (F := Ideal) j = (0 : EReal) := by
  pointwise [k0_pay54]
/-- The weighted sums start at zero. -/
theorem pay55_apply (j : S1024x256.Idx) : k0_pay55 (F := Ideal) j = (0 : EReal) := by
  pointwise [k0_pay55]

/-- The scores of a full tile: query rows against the tile's 512 keys. -/
def scores (q : Vec Ideal S1024x256 .fp8e4m3) (kt : Vec Ideal S1x512x256 .fp8e4m3) : FVec Ideal S1024x512 .f32 :=
  matmul (φ₁ := .fp8e4m3) (φ₂ := .fp8e4m3) dot_S1024x256_S512x256_S1024x512_1_1_0_0_n_n none q (shapeCast S512x256 kt shapeCasts_S1x512x256_S512x256) (constant S1024x512 .f32 0x00000000#32)

/-- Lanes `0 … 127` of a tile's scores. -/
def sl0 (s : FVec Ideal S1024x512 .f32) : FVec Ideal S1024x128 .f32 := extractStridedSlice S1024x128 ![0, 0] s slices_S1024x512_o0_0_S1024x128
/-- Lanes `128 … 255` of a tile's scores. -/
def sl1 (s : FVec Ideal S1024x512 .f32) : FVec Ideal S1024x128 .f32 := extractStridedSlice S1024x128 ![0, 128] s slices_S1024x512_o0_128_S1024x128
/-- Lanes `256 … 383` of a tile's scores. -/
def sl2 (s : FVec Ideal S1024x512 .f32) : FVec Ideal S1024x128 .f32 := extractStridedSlice S1024x128 ![0, 256] s slices_S1024x512_o0_256_S1024x128
/-- Lanes `384 … 511` of a tile's scores. -/
def sl3 (s : FVec Ideal S1024x512 .f32) : FVec Ideal S1024x128 .f32 := extractStridedSlice S1024x128 ![0, 384] s slices_S1024x512_o0_384_S1024x128

/-- The weights of 128 lanes of scores. -/
def wts (cS mS s : FVec Ideal S1024x128 .f32) : FVec Ideal S1024x128 .f32 := exp2 (subf (mulf s cS) mS)
/-- Weights saturated to the range of the 8-bit format. -/
def sats (e : FVec Ideal S1024x128 .f32) : FVec Ideal S1024x128 .fp8e4m3 :=
  truncf .fp8e4m3 (minimumf (broadcast S1024x128 (Scalar.ofBits .f32 0x43E00000#32)) (maximumf (broadcast S1024x128 (Scalar.ofBits .f32 0xC3E00000#32)) e)) bitsLt_fp8e4m3_f32

/-- The denominators after one more full tile. -/
def newL (s : FVec Ideal S1024x512 .f32) (cS mS lo : FVec Ideal S1024x128 .f32) : FVec Ideal S1024x128 .f32 :=
  k0_pay57 cS mS (addf (addf (addf lo (wts cS mS (sl0 s))) (wts cS mS (sl1 s))) (wts cS mS (sl2 s))) (sl3 s)

/-- The weighted sums of the values after one more full tile. -/
def newA (s : FVec Ideal S1024x512 .f32) (cS mS : FVec Ideal S1024x128 .f32) (ao : FVec Ideal S1024x256 .f32) (vt : Vec Ideal S1x512x256 .fp8e4m3) : FVec Ideal S1024x256 .f32 :=
  k0_pay58 cS mS (sats (wts cS mS (sl0 s))) (sats (wts cS mS (sl1 s))) (sats (wts cS mS (sl2 s))) (sl3 s) ao vt

/-- A tile's scores at an index. -/
theorem scores_apply (q : Vec Ideal S1024x256 .fp8e4m3) (kt : Vec Ideal S1x512x256 .fp8e4m3) (r : Fin 1024) (j : Fin 512) :
    scores q kt (ix2 r j) = score q kt r j := by
  pointwise [scores]
  simp [score]

/-- The running maxima after one more full tile, at an index. -/
theorem pay45_eq (q : Vec Ideal S1024x256 .fp8e4m3) (kt : Vec Ideal S1x512x256 .fp8e4m3) (m : Vec Ideal S1024x128 .f32) (r : Fin 1024) (l : Fin 128) :
    k0_pay45 (F := Ideal) q kt m (ix2 r l) = max (max (max (max (m (ix2 r l)) (score q kt r ⟨l.val, by omega⟩)) (score q kt r ⟨128 + l.val, by omega⟩))
      (score q kt r ⟨256 + l.val, by omega⟩)) (score q kt r ⟨384 + l.val, by omega⟩) := by
  pointwise [k0_pay45]
  rfl

/-- The denominators after one more full tile, at an index. -/
theorem newL_apply (s : FVec Ideal S1024x512 .f32) (cS mS lo : FVec Ideal S1024x128 .f32) (r : Fin 1024) (l : Fin 128) (C M : EReal)
    (hC : ∀ l : Fin 128, cS (ix2 r l) = C) (hM : ∀ l : Fin 128, mS (ix2 r l) = M) :
    newL s cS mS lo (ix2 r l) = lo (ix2 r l) + Ideal.exp2 (s (ix2 r ⟨l.val, by omega⟩) * C - M) + Ideal.exp2 (s (ix2 r ⟨128 + l.val, by omega⟩) * C - M)
      + Ideal.exp2 (s (ix2 r ⟨256 + l.val, by omega⟩) * C - M) + Ideal.exp2 (s (ix2 r ⟨384 + l.val, by omega⟩) * C - M) := by
  pointwise [newL, k0_pay57, k0_pay56, wts, sl0, sl1, sl2, sl3]
  simp only [hC, hM]
  try rfl

/-- The weighted sums after one more full tile, at an index. -/
theorem newA_apply (s : FVec Ideal S1024x512 .f32) (cS mS : FVec Ideal S1024x128 .f32) (ao : FVec Ideal S1024x256 .f32) (vt : Vec Ideal S1x512x256 .fp8e4m3) (r : Fin 1024) (d : Fin 256) (C M : EReal)
    (hC : ∀ l : Fin 128, cS (ix2 r l) = C) (hM : ∀ l : Fin 128, mS (ix2 r l) = M) :
    newA s cS mS ao vt (ix2 r d) = ao (ix2 r d) + ∑ j : Fin 512, sat (Ideal.exp2 (s (ix2 r j) * C - M)) * vt (ix3 0 j d) := by
  pointwise [newA, k0_pay58, k0_pay56, wts, sats, sl0, sl1, sl2, sl3]
  simp only [hC, hM, n448, p448]
  congr 1

/-- Which entries of 128 lanes are kept: key position at most query position. -/
def mask (a b : BitVec 32) : IVec S1024x128 1 :=
  cmpi .sle (addi (broadcast S1024x128 a) (iota .tc S1024x128 32 [1] iota_S1024x128_d1_w32))
    (addi (broadcast S1024x128 b) (shapeCast S1024x128 (iota .tc S8x128x128 32 [1] iota_S8x128x128_d1_w32) shapeCasts_S8x128x128_S1024x128))

/-- The mask keeps key positions that are at most the query position. -/
theorem mask_apply (a b : ℕ) (ha : a < 10000) (hb : b < 10000) (r : Fin 1024) (l : Fin 128) :
    mask (BitVec.ofNat 32 a) (BitVec.ofNat 32 b) (ix2 r l) = BitVec.ofBool (decide (a + l.val ≤ b + r.val % 128)) := by
  pointwise [mask]
  show IntOp.cmpi .sle (BitVec.ofNat 32 a + BitVec.ofNat 32 l.val) (BitVec.ofNat 32 b + BitVec.ofNat 32 (r.val % 128)) = _
  rw [← BitVec.ofNat_add, ← BitVec.ofNat_add]
  exact WordCmp.cmpi_sle_ofNat (by omega) (by omega)

/-- A vector of minus infinities. -/
def ninfV : FVec Ideal S1024x128 .f32 := broadcast S1024x128 (Scalar.ofBits .f32 0xFF800000#32)

/-- The running row maxima after the diagonal tile. -/
def tailM (s : FVec Ideal S1024x512 .f32) (k0 k1 k2 k3 : IVec S1024x128 1) (m : FVec Ideal S1024x128 .f32) : FVec Ideal S1024x128 .f32 :=
  k0_pay52 (maximumf (maximumf (maximumf m (select k0 (sl0 s) ninfV)) (select k1 (sl1 s) ninfV)) (select k2 (sl2 s) ninfV)) (sl3 s) k3

/-- The masked weights of 128 lanes. -/
def tailW (cS mS s : FVec Ideal S1024x128 .f32) (k : IVec S1024x128 1) : FVec Ideal S1024x128 .f32 :=
  exp2 (select k (subf (mulf s cS) mS) ninfV)

/-- The denominators after the diagonal tile. -/
def tailL (s : FVec Ideal S1024x512 .f32) (cS mS lo : FVec Ideal S1024x128 .f32) (k0 k1 k2 k3 : IVec S1024x128 1) : FVec Ideal S1024x128 .f32 :=
  shapeCast S1024x128 (addf (addf (addf (addf lo (tailW cS mS (sl0 s) k0)) (tailW cS mS (sl1 s) k1)) (tailW cS mS (sl2 s) k2)) (tailW cS mS (sl3 s) k3))
    shapeCasts_S1024x128_S1024x128

/-- The weighted sums of the values after the diagonal tile. -/
def tailA (s : FVec Ideal S1024x512 .f32) (cS mS : FVec Ideal S1024x128 .f32) (ao : FVec Ideal S1024x256 .f32) (vt : Vec Ideal S1x512x256 .fp8e4m3) (k0 k1 k2 k3 : IVec S1024x128 1) : FVec Ideal S1024x256 .f32 :=
  shapeCast S1024x256 (addf ao (matmul (φ₁ := .fp8e4m3) (φ₂ := .fp8e4m3) dot_S1024x512_S512x256_S1024x256_1_0_0_1_n_n none
    (concatenate S1024x512 1 [⟨S1024x128, sats (tailW cS mS (sl0 s) k0)⟩, ⟨S1024x128, sats (tailW cS mS (sl1 s) k1)⟩, ⟨S1024x128, sats (tailW cS mS (sl2 s) k2)⟩, ⟨S1024x128, sats (tailW cS mS (sl3 s) k3)⟩] concatenates_S1024x128_S1024x128_S1024x128_S1024x128_S1024x512_d1)
    (shapeCast S512x256 vt shapeCasts_S1x512x256_S512x256) (constant S1024x256 .f32 0x00000000#32))) shapeCasts_S1024x256_S1024x256

/-- The running maxima after the diagonal tile, at an index. -/
theorem tailM_apply (s : FVec Ideal S1024x512 .f32) (k0 k1 k2 k3 : IVec S1024x128 1) (m : FVec Ideal S1024x128 .f32) (r : Fin 1024) (l : Fin 128) :
    tailM s k0 k1 k2 k3 m (ix2 r l) = max (max (max (max (m (ix2 r l)) (Scalar.select (k0 (ix2 r l)) (s (ix2 r ⟨l.val, by omega⟩)) (⊥ : EReal)))
      (Scalar.select (k1 (ix2 r l)) (s (ix2 r ⟨128 + l.val, by omega⟩)) (⊥ : EReal))) (Scalar.select (k2 (ix2 r l)) (s (ix2 r ⟨256 + l.val, by omega⟩)) (⊥ : EReal)))
      (Scalar.select (k3 (ix2 r l)) (s (ix2 r ⟨384 + l.val, by omega⟩)) (⊥ : EReal)) := by
  pointwise [tailM, k0_pay52, ninfV, sl0, sl1, sl2, sl3]
  simp only [ninf]

/-- The denominators after the diagonal tile, at an index. -/
theorem tailL_apply (s : FVec Ideal S1024x512 .f32) (cS mS lo : FVec Ideal S1024x128 .f32) (k0 k1 k2 k3 : IVec S1024x128 1) (r : Fin 1024) (l : Fin 128) (C M : EReal)
    (hC : ∀ l : Fin 128, cS (ix2 r l) = C) (hM : ∀ l : Fin 128, mS (ix2 r l) = M) :
    tailL s cS mS lo k0 k1 k2 k3 (ix2 r l) = lo (ix2 r l) + Ideal.exp2 (Scalar.select (k0 (ix2 r l)) (s (ix2 r ⟨l.val, by omega⟩) * C - M) (⊥ : EReal))
      + Ideal.exp2 (Scalar.select (k1 (ix2 r l)) (s (ix2 r ⟨128 + l.val, by omega⟩) * C - M) (⊥ : EReal))
      + Ideal.exp2 (Scalar.select (k2 (ix2 r l)) (s (ix2 r ⟨256 + l.val, by omega⟩) * C - M) (⊥ : EReal))
      + Ideal.exp2 (Scalar.select (k3 (ix2 r l)) (s (ix2 r ⟨384 + l.val, by omega⟩) * C - M) (⊥ : EReal)) := by
  pointwise [tailL, tailW, ninfV, sl0, sl1, sl2, sl3]
  simp only [hC, hM, ninf]
  try rfl

/-- The weighted sums after the diagonal tile, at an index. -/
theorem tailA_apply (s : FVec Ideal S1024x512 .f32) (cS mS : FVec Ideal S1024x128 .f32) (ao : FVec Ideal S1024x256 .f32) (vt : Vec Ideal S1x512x256 .fp8e4m3) (k0 k1 k2 k3 : IVec S1024x128 1) (r : Fin 1024) (d : Fin 256) (C M : EReal)
    (hC : ∀ l : Fin 128, cS (ix2 r l) = C) (hM : ∀ l : Fin 128, mS (ix2 r l) = M) (P : ℕ → BitVec 1)
    (h0 : ∀ l : Fin 128, k0 (ix2 r l) = P l.val) (h1 : ∀ l : Fin 128, k1 (ix2 r l) = P (128 + l.val))
    (h2 : ∀ l : Fin 128, k2 (ix2 r l) = P (256 + l.val)) (h3 : ∀ l : Fin 128, k3 (ix2 r l) = P (384 + l.val)) :
    tailA s cS mS ao vt k0 k1 k2 k3 (ix2 r d) = ao (ix2 r d) + ∑ j : Fin 512, sat (Ideal.exp2 (Scalar.select (P j.val) (s (ix2 r j) * C - M) (⊥ : EReal))) * vt (ix3 0 j d) := by
  pointwise [tailA, tailW, sats, ninfV, sl0, sl1, sl2, sl3]
  simp only [hC, hM, ninf, n448, p448, h0, h1, h2, h3]
  congr 1

end Cert.Attn

end
-- ==== Proof.Loops.lean ====
module

public import proofs.«01_k».proof.Proof.Tile

@[expose] public section

set_option maxRecDepth 16384

noncomputable section

namespace Cert.Attn

open Idealize.ShloMosaic Cert.KernelIdeal Cert.KernelIdeal.Gen

/-- The whole of a 1024×128 buffer, as a load. -/
abbrev B128 : LoadRect S1024x128 := (Rect.unit (s := S1024x128) ![0, 0] S1024x128.size inb_S1024x128_S1024x128_0_0).toLoadRect
/-- The whole of a 1024×256 buffer, as a load. -/
abbrev B256 : LoadRect S1024x256 := (Rect.unit (s := S1024x256) ![0, 0] S1024x256.size inb_S1024x256_S1024x256_0_0).toLoadRect
/-- The 512 rows of the keys or values at a place, as a load. -/
abbrev BT (off : Fin 3 → ℕ) (h : ∀ a, off a + S1x512x256.size a ≤ S1x8192x256.size a) : LoadRect S1x8192x256 :=
  (Rect.unit (s := S1x8192x256) off S1x512x256.size h).toLoadRect

/-- Four more lanes groups enter a supremum. -/
theorem sup_four (f : ℕ → EReal) (n l : ℕ) :
    (Finset.range (4 * (n + 1))).sup (fun t => f (128 * t + l)) = max (max (max (max ((Finset.range (4 * n)).sup fun t => f (128 * t + l)) (f (512 * n + l)))
      (f (512 * n + (128 + l)))) (f (512 * n + (256 + l)))) (f (512 * n + (384 + l))) := by
  rw [show 4 * (n + 1) = 4 * n + 1 + 1 + 1 + 1 by ring]
  simp only [Finset.range_add_one, Finset.sup_insert]
  rw [show 128 * (4 * n) + l = 512 * n + l by ring, show 128 * (4 * n + 1) + l = 512 * n + (128 + l) by ring,
    show 128 * (4 * n + 1 + 1) + l = 512 * n + (256 + l) by ring, show 128 * (4 * n + 1 + 1 + 1) + l = 512 * n + (384 + l) by ring]
  simp only [max_comm, max_left_comm, max_assoc]

/-- Four more lanes groups enter a sum. -/
theorem sum_four (f : ℕ → EReal) (n l : ℕ) :
    ∑ t ∈ Finset.range (4 * (n + 1)), f (128 * t + l) = (∑ t ∈ Finset.range (4 * n), f (128 * t + l)) + f (512 * n + l) + f (512 * n + (128 + l))
      + f (512 * n + (256 + l)) + f (512 * n + (384 + l)) := by
  rw [show 4 * (n + 1) = 4 * n + 1 + 1 + 1 + 1 by ring]
  simp only [Finset.sum_range_succ]
  rw [show 128 * (4 * n) + l = 512 * n + l by ring, show 128 * (4 * n + 1) + l = 512 * n + (128 + l) by ring,
    show 128 * (4 * n + 1 + 1) + l = 512 * n + (256 + l) by ring, show 128 * (4 * n + 1 + 1 + 1) + l = 512 * n + (384 + l) by ring]

/-- One more tile of 512 enters a sum. -/
theorem sum_tile (f : ℕ → EReal) (n : ℕ) :
    ∑ k ∈ Finset.range (512 * (n + 1)), f k = (∑ k ∈ Finset.range (512 * n), f k) + ∑ j : Fin 512, f (512 * n + j.val) := by
  rw [Nat.mul_succ, Finset.sum_range_add, ← Fin.sum_univ_eq_sum_range (fun j => f (512 * n + j))]

variable (c : Dev nD) (i : grid0.Coords)
  (arg3 : Memref sig .tc .smem S2x8 .f32) (harg3 : arg3.IsWhole)
  (arg4 : Memref sig .tc .smem S2 .f32) (harg4 : arg4.IsWhole)
  (arg5 : Memref sig .tc .vmem S1x128x2048 .fp8e4m3) (harg5 : arg5.IsWhole)
  (arg6 : Memref sig .tc .vmem S1x8192x256 .fp8e4m3) (harg6 : arg6.IsWhole)
  (arg7 : Memref sig .tc .vmem S1x8192x256 .fp8e4m3) (harg7 : arg7.IsWhole)
  (arg8 : Memref sig .tc .vmem S1x128x2048 .bf16) (harg8 : arg8.IsWhole)
  (arg9 : Memref sig .tc .vmem S1024x256 .fp8e4m3) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x256 .f32) (harg13 : arg13.IsWhole)

/-- What one trip of the first loop leaves in the running maxima. -/
theorem trip1 (v17 : BitVec 32) (X6) (X9) (k : Fin (k0_t1_loop i).trips) (f G) (L) (h9) :
   arg11.view.readAt (Elt Ideal) (Rect.unit (s := S1024x128) ![0,0] S1024x128.size inb_S1024x128_S1024x128_0_0).toLoadRect (arg11.view.writes (Elt Ideal) G (tripL_k0_t1 (F := Ideal) Variants.none c none i arg3 harg3 arg4 harg4 arg5 harg5 arg6 harg6 arg7 harg7 arg8 harg8 arg9 harg9 arg10 harg10 arg11 harg11 arg12 harg12 arg13 harg13 v17 X6 X9 k f ++ L)) =
     k0_pay45 (F := Ideal) (arg9.view.readAt (Elt Ideal) (Rect.unit (s := S1024x256) ![0,0] S1024x256.size inb_S1024x256_S1024x256_0_0).toLoadRect X9) (arg6.view.readAt (Elt Ideal) (Rect.unit (s := S1x8192x256) (k0_off9 i k) S1x512x256.size h9).toLoadRect X6)
      (arg11.view.readAt (Elt Ideal) (Rect.unit (s := S1024x128) ![0,0] S1024x128.size inb_S1024x128_S1024x128_0_0).toLoadRect f) := by
  unfold tripL_k0_t1 trip_k0_t1; dsimp only
  exact View.readAt_writes_full ..

/-- What one trip of the second loop leaves in the denominators. -/
theorem trip3l (v17 : BitVec 32) (v209 v210 v219) (X6 X7 X9 X10 X11) (k : Fin (k0_t3_loop i).trips) (f f' G) (L) (h11) :
   arg12.view.readAt (Elt Ideal) (Rect.unit (s := S1024x128) ![0,0] S1024x128.size inb_S1024x128_S1024x128_0_0).toLoadRect (arg12.view.writes (Elt Ideal) G ((tripL_k0_t3 (F := Ideal) Variants.none c none i arg3 harg3 arg4 harg4 arg5 harg5 arg6 harg6 arg7 harg7 arg8 harg8 arg9 harg9 arg10 harg10 arg11 harg11 arg12 harg12 arg13 harg13 v17 v209 v210 v219 X6 X7 X9 X10 X11 k f f').1 ++ L)) =
    newL (scores (arg9.view.readAt (Elt Ideal) (Rect.unit (s := S1024x256) ![0,0] S1024x256.size inb_S1024x256_S1024x256_0_0).toLoadRect X9) (arg6.view.readAt (Elt Ideal) (Rect.unit (s := S1x8192x256) (k0_off12 i k) S1x512x256.size h11).toLoadRect X6))
      (arg10.view.readAt (Elt Ideal) (Rect.unit (s := S1024x128) ![0,0] S1024x128.size inb_S1024x128_S1024x128_0_0).toLoadRect X10)
      (arg11.view.readAt (Elt Ideal) (Rect.unit (s := S1024x128) ![0,0] S1024x128.size inb_S1024x128_S1024x128_0_0).toLoadRect X11)
      (arg12.view.readAt (Elt Ideal) (Rect.unit (s := S1024x128) ![0,0] S1024x128.size inb_S1024x128_S1024x128_0_0).toLoadRect f) := by
  unfold tripL_k0_t3 trip_k0_t3; dsimp only
  exact View.readAt_writes_full ..

/-- What one trip of the second loop leaves in the weighted sums. -/
theorem trip3a (v17 : BitVec 32) (v209 v210 v219) (X6 X7 X9 X10 X11) (k : Fin (k0_t3_loop i).trips) (f f' G) (L) (h11) :
   arg13.view.readAt (Elt Ideal) (Rect.unit (s := S1024x256) ![0,0] S1024x256.size inb_S1024x256_S1024x256_0_0).toLoadRect (arg13.view.writes (Elt Ideal) G ((tripL_k0_t3 (F := Ideal) Variants.none c none i arg3 harg3 arg4 harg4 arg5 harg5 arg6 harg6 arg7 harg7 arg8 harg8 arg9 harg9 arg10 harg10 arg11 harg11 arg12 harg12 arg13 harg13 v17 v209 v210 v219 X6 X7 X9 X10 X11 k f f').2 ++ L)) =
    newA (scores (arg9.view.readAt (Elt Ideal) (Rect.unit (s := S1024x256) ![0,0] S1024x256.size inb_S1024x256_S1024x256_0_0).toLoadRect X9) (arg6.view.readAt (Elt Ideal) (Rect.unit (s := S1x8192x256) (k0_off12 i k) S1x512x256.size h11).toLoadRect X6))
      (arg10.view.readAt (Elt Ideal) (Rect.unit (s := S1024x128) ![0,0] S1024x128.size inb_S1024x128_S1024x128_0_0).toLoadRect X10)
      (arg11.view.readAt (Elt Ideal) (Rect.unit (s := S1024x128) ![0,0] S1024x128.size inb_S1024x128_S1024x128_0_0).toLoadRect X11)
      (arg13.view.readAt (Elt Ideal) (Rect.unit (s := S1024x256) ![0,0] S1024x256.size inb_S1024x256_S1024x256_0_0).toLoadRect f')
      (arg7.view.readAt (Elt Ideal) (Rect.unit (s := S1x8192x256) (k0_off12 i k) S1x512x256.size h11).toLoadRect X7) := by
  unfold tripL_k0_t3 trip_k0_t3; dsimp only
  exact View.readAt_writes_full ..

/-- The running maxima after `n` full tiles: each lane holds the maximum of the keys it has met. -/
theorem loop1 (v17 : BitVec 32) (X6) (X9) (G) (r : Fin 1024) (S : ℕ → EReal) (h9 : ∀ (k : Fin (k0_t1_loop i).trips) (a : Fin 3), k0_off9 i k a + S1x512x256.size a ≤ S1x8192x256.size a)
    (h0 : ∀ l : Fin 128, arg11.view.readAt (Elt Ideal) B128 G (ix2 r l) = (⊥ : EReal))
    (hS : ∀ (k : Fin (k0_t1_loop i).trips) (j : Fin 512), score (arg9.view.readAt (Elt Ideal) B256 X9) (arg6.view.readAt (Elt Ideal) (BT (k0_off9 i k) (h9 k)) X6) r j = S (512 * k.val + j.val))
    (n : ℕ) (hn : n ≤ (k0_t1_loop i).trips) (l : Fin 128) :
    arg11.view.readAt (Elt Ideal) B128 (arg11.view.writes (Elt Ideal) G (pb_k0_t1 (F := Ideal) Variants.none c none i arg3 harg3 arg4 harg4 arg5 harg5 arg6 harg6 arg7 harg7 arg8 harg8 arg9 harg9 arg10 harg10 arg11 harg11 arg12 harg12 arg13 harg13 v17 X6 X9 G n)) (ix2 r l)
      = (Finset.range (4 * n)).sup fun t => S (128 * t + l.val) := by
  induction n with
  | zero => rw [pb_k0_t1.eq_1]; exact h0 l
  | succ n ih =>
    have e := pb_k0_t1_succ (F := Ideal) Variants.none c none i arg3 harg3 arg4 harg4 arg5 harg5 arg6 harg6 arg7 harg7 arg8 harg8 arg9 harg9 arg10 harg10 arg11 harg11 arg12 harg12 arg13 harg13 v17 X6 X9 G ⟨n, hn⟩
    rw [show n + 1 = (⟨n, hn⟩ : Fin (k0_t1_loop i).trips).val + 1 from rfl, e]
    refine (congrFun (trip1 c i arg3 harg3 arg4 harg4 arg5 harg5 arg6 harg6 arg7 harg7 arg8 harg8 arg9 harg9 arg10 harg10 arg11 harg11 arg12 harg12 arg13 harg13 v17 X6 X9 ⟨n, hn⟩ _ G _ (h9 _)) _).trans ?_
    rw [pay45_eq, ih (by omega), hS, hS, hS, hS]
    exact (sup_four S n l.val).symm

/-- The denominators and the weighted sums after `n` full tiles. -/
theorem loop3 (v17 : BitVec 32) (v209 v210 v219) (X6 X7 X9 X10 X11) (G G') (r : Fin 1024) (C M : EReal) (W : ℕ → EReal) (V : Fin 256 → ℕ → EReal) (h12 : ∀ (k : Fin (k0_t3_loop i).trips) (a : Fin 3), k0_off12 i k a + S1x512x256.size a ≤ S1x8192x256.size a)
    (h0 : ∀ l : Fin 128, arg12.view.readAt (Elt Ideal) B128 G (ix2 r l) = (0 : EReal))
    (h0' : ∀ d : Fin 256, arg13.view.readAt (Elt Ideal) B256 G' (ix2 r d) = (0 : EReal))
    (hC : ∀ l : Fin 128, arg10.view.readAt (Elt Ideal) B128 X10 (ix2 r l) = C)
    (hM : ∀ l : Fin 128, arg11.view.readAt (Elt Ideal) B128 X11 (ix2 r l) = M)
    (hW : ∀ (k : Fin (k0_t3_loop i).trips) (j : Fin 512), Ideal.exp2 (score (arg9.view.readAt (Elt Ideal) B256 X9) (arg6.view.readAt (Elt Ideal) (BT (k0_off12 i k) (h12 k)) X6) r j * C - M) = W (512 * k.val + j.val))
    (hV : ∀ (k : Fin (k0_t3_loop i).trips) (j : Fin 512) (d : Fin 256), arg7.view.readAt (Elt Ideal) (BT (k0_off12 i k) (h12 k)) X7 (ix3 0 j d) = V d (512 * k.val + j.val))
    (n : ℕ) (hn : n ≤ (k0_t3_loop i).trips) :
    (∀ l : Fin 128, arg12.view.readAt (Elt Ideal) B128 (arg12.view.writes (Elt Ideal) G (pb_k0_t3 (F := Ideal) Variants.none c none i arg3 harg3 arg4 harg4 arg5 harg5 arg6 harg6 arg7 harg7 arg8 harg8 arg9 harg9 arg10 harg10 arg11 harg11 arg12 harg12 arg13 harg13 v17 v209 v210 v219 X6 X7 X9 X10 X11 G G' n).1) (ix2 r l)
      = ∑ t ∈ Finset.range (4 * n), W (128 * t + l.val)) ∧
    (∀ d : Fin 256, arg13.view.readAt (Elt Ideal) B256 (arg13.view.writes (Elt Ideal) G' (pb_k0_t3 (F := Ideal) Variants.none c none i arg3 harg3 arg4 harg4 arg5 harg5 arg6 harg6 arg7 harg7 arg8 harg8 arg9 harg9 arg10 harg10 arg11 harg11 arg12 harg12 arg13 harg13 v17 v209 v210 v219 X6 X7 X9 X10 X11 G G' n).2) (ix2 r d)
      = ∑ k ∈ Finset.range (512 * n), sat (W k) * V d k) := by
  induction n with
  | zero =>
    rw [pb_k0_t3.eq_1]
    refine ⟨fun l => (h0 l).trans ?_, fun d => (h0' d).trans ?_⟩ <;> simp
  | succ n ih =>
    obtain ⟨ih1, ih2⟩ := ih (by omega)
    have e := pb_k0_t3_succ (F := Ideal) Variants.none c none i arg3 harg3 arg4 harg4 arg5 harg5 arg6 harg6 arg7 harg7 arg8 harg8 arg9 harg9 arg10 harg10 arg11 harg11 arg12 harg12 arg13 harg13 v17 v209 v210 v219 X6 X7 X9 X10 X11 G G' ⟨n, hn⟩
    rw [show n + 1 = (⟨n, hn⟩ : Fin (k0_t3_loop i).trips).val + 1 from rfl, e]
    constructor
    · intro l
      refine (congrFun (trip3l c i arg3 harg3 arg4 harg4 arg5 harg5 arg6 harg6 arg7 harg7 arg8 harg8 arg9 harg9 arg10 harg10 arg11 harg11 arg12 harg12 arg13 harg13 v17 v209 v210 v219 X6 X7 X9 X10 X11 ⟨n, hn⟩ _ _ G _ (h12 _)) _).trans ?_
      rw [newL_apply _ _ _ _ r l C M hC hM, ih1 l]
      simp only [scores_apply, hW]
      exact (sum_four W n l.val).symm
    · intro d
      refine (congrFun (trip3a c i arg3 harg3 arg4 harg4 arg5 harg5 arg6 harg6 arg7 harg7 arg8 harg8 arg9 harg9 arg10 harg10 arg11 harg11 arg12 harg12 arg13 harg13 v17 v209 v210 v219 X6 X7 X9 X10 X11 ⟨n, hn⟩ _ _ G' _ (h12 _)) _).trans ?_
      rw [newA_apply _ _ _ _ _ r d C M hC hM, ih2 d]
      simp only [scores_apply, hW, hV]
      exact (sum_tile (fun k => sat (W k) * V d k) n).symm

end Cert.Attn

end
-- ==== Proof.Scratch.lean ====
module

public import proofs.«01_k».proof.Proof.Loops
public import Idealize.ShloMosaic.Lib.Pipeline.Value
public import Idealize.ShloMosaic.Lib.Pipeline.ValueKit.Tiles

@[expose] public section

set_option maxRecDepth 16384

noncomputable section

namespace Cert.Attn

open Idealize.ShloMosaic Cert.KernelIdeal Cert.KernelIdeal.Gen

/-- The constant the kernel names `log2e`, exactly. -/
theorem log2e_eq : (Named.named κ "log2e" 0x3FB8AA3B#32 : Ideal .f32) = lg := IdealRules.named_const.ideal_named_scalar _ _ _ _ rfl

/-- `log2 e` is not negative. -/
theorem lg_pos : (0 : EReal) ≤ lg := EReal.coe_nonneg.2 (inv_nonneg.2 (Real.log_nonneg (by norm_num)))

/-- A head's scale in base two: not negative where the head's product of scales is not. -/
theorem pay20_eq (x : EReal) : k0_pay20 (F := Ideal) x = x * lg := by
  show x * (Named.named κ "log2e" 0x3FB8AA3B#32 : Ideal .f32) = _
  rw [log2e_eq]

/-- Where the scale is not negative the codes are stored as they are. -/
theorem pay21_apply (x : EReal) (hx : 0 ≤ x) (w : Vec Ideal S1x128x256 .fp8e4m3) (a : Fin 128) (d : Fin 256) :
    k0_pay21 (F := Ideal) x w (ix2 a d) = w (ix3 0 a d) := by
  pointwise [k0_pay21]
  rw [pay20_eq, if_neg (not_lt.2 (mul_nonneg hx lg_pos))]
  pointwise

/-- Where the scale is not negative its magnitude is itself. -/
theorem pay22_apply (x : EReal) (hx : 0 ≤ x) (j : S128x128.Idx) : k0_pay22 (F := Ideal) x j = x * lg := by
  pointwise [k0_pay22]
  rw [pay20_eq]
  show max (x * lg) (-(x * lg)) = _
  have h := mul_nonneg hx lg_pos
  exact max_eq_left ((EReal.neg_le_neg_iff.2 h |>.trans (by simp)).trans h)

variable (c : Dev nD) (i : grid0.Coords)
  (arg3 : Memref sig .tc .smem S2x8 .f32) (harg3 : arg3.IsWhole)
  (arg5 : Memref sig .tc .vmem S1x128x2048 .fp8e4m3) (harg5 : arg5.IsWhole)
  (arg9 : Memref sig .tc .vmem S1024x256 .fp8e4m3)
  (arg10 : Memref sig .tc .vmem S1024x128 .f32)
  (x0 : S2x8.Idx → EReal) (x2 : S1x128x2048.Idx → EReal)

/-- The key/value group of a grid point. -/
abbrev gOf : Fin 2 := ⟨(i 1).val, gi_lt i⟩

/-- A load of one word of the scales. -/
theorem scale_read (off : Fin 2 → ℕ) (h) (ρ : Fin 8) (ho : off = ![(i 1).val, ρ.val]) (y) :
    arg3.view.readAt (Elt Ideal) (Rect.unit (s := S2x8) off S1x1.size h).toLoadRect (harg3.unread x0) y = x0 (ix2 (gOf i) ρ) := by
  subst ho
  refine (congrFun (View.readAt_eq_ld _ _ (Rect.unit (s := S2x8) _ S1x1.size h)) _).trans ?_
  rw [harg3.read_unread]
  refine View.ld_unit_apply_of _ _ _ _ _ _ fun a => ?_
  have h0 : (y 0).val < 1 := (y 0).isLt
  have h1 : (y 1).val < 1 := (y 1).isLt
  fin_cases a
  · show (i 1).val = (i 1).val + (y 0).val; omega
  · show ρ.val = ρ.val + (y 1).val; omega

/-- The scale word of head 0. -/
theorem r0_eq : kernelRun0_A.sl.r (F := Ideal) c i arg3 harg3 x0 = x0 (ix2 (gOf i) 0) := scale_read i arg3 harg3 x0 _ _ 0 (k0_off1_eq i) _
/-- The scale word of head 1. -/
theorem r1_eq : kernelRun0_A.sl.r_1 (F := Ideal) c i arg3 harg3 x0 = x0 (ix2 (gOf i) 1) := scale_read i arg3 harg3 x0 _ _ 1 (k0_off2_eq i) _
/-- The scale word of head 2. -/
theorem r2_eq : kernelRun0_A.sl.r_2 (F := Ideal) c i arg3 harg3 x0 = x0 (ix2 (gOf i) 2) := scale_read i arg3 harg3 x0 _ _ 2 (k0_off3_eq i) _
/-- The scale word of head 3. -/
theorem r3_eq : kernelRun0_A.sl.r_3 (F := Ideal) c i arg3 harg3 x0 = x0 (ix2 (gOf i) 3) := scale_read i arg3 harg3 x0 _ _ 3 (k0_off4_eq i) _
/-- The scale word of head 4. -/
theorem r4_eq : kernelRun0_A.sl.r_4 (F := Ideal) c i arg3 harg3 x0 = x0 (ix2 (gOf i) 4) := scale_read i arg3 harg3 x0 _ _ 4 (k0_off5_eq i) _
/-- The scale word of head 5. -/
theorem r5_eq : kernelRun0_A.sl.r_5 (F := Ideal) c i arg3 harg3 x0 = x0 (ix2 (gOf i) 5) := scale_read i arg3 harg3 x0 _ _ 5 (k0_off6_eq i) _
/-- The scale word of head 6. -/
theorem r6_eq : kernelRun0_A.sl.r_6 (F := Ideal) c i arg3 harg3 x0 = x0 (ix2 (gOf i) 6) := scale_read i arg3 harg3 x0 _ _ 6 (k0_off7_eq i) _
/-- The scale word of head 7. -/
theorem r7_eq : kernelRun0_A.sl.r_7 (F := Ideal) c i arg3 harg3 x0 = x0 (ix2 (gOf i) 7) := scale_read i arg3 harg3 x0 _ _ 7 (k0_off8_eq i) _

/-- The query tile at a row: row `128 ρ + a` holds head `ρ` of query `a`. -/
def qTile : Vec Ideal S1024x256 .fp8e4m3 := fun y =>
  x2 (ix3 0 ⟨(y 0).val % 128, Nat.mod_lt _ (by omega)⟩ ⟨256 * ((y 0).val / 128) + (y 1).val, by
    have h0 : (y 0).val < 1024 := (y 0).isLt
    have h1 : (y 1).val < 256 := (y 1).isLt
    omega⟩)

/-- The scale tile at a row. -/
def cTile : Vec Ideal S1024x128 .f32 := fun y =>
  x0 (ix2 (gOf i) ⟨(y 0).val / 128, by
    have h0 : (y 0).val < 1024 := (y 0).isLt
    omega⟩) * lg

/-- One head's store into the query scratch. -/
theorem qPiece (ρ : Fin 8) (s : EReal) (hs : 0 ≤ s) (h h') (x : S128x256.Idx) :
    k0_pay21 (F := Ideal) s (arg5.view.readAt (Elt Ideal) (Rect.unit (s := S1x128x2048) ![0, 0, 256 * ρ.val] S1x128x256.size h).toLoadRect (harg5.unread x2)) x
      = qTile x2 ((Rect.unit (s := S1024x256) ![128 * ρ.val, 0] S128x256.size h').emb x) := by
  obtain ⟨a, d, rfl⟩ : ∃ (a : Fin 128) (d : Fin 256), x = ix2 a d := ⟨x 0, x 1, eq_ix2 x⟩
  rw [pay21_apply s hs]
  refine (congrFun (View.readAt_eq_ld _ _ (Rect.unit (s := S1x128x2048) _ S1x128x256.size h)) _).trans ?_
  rw [harg5.read_unread]
  have e0 : ((Rect.unit (s := S1024x256) ![128 * ρ.val, 0] S128x256.size h').emb (ix2 a d) 0).val = 128 * ρ.val + 1 * a.val := rfl
  have e1 : ((Rect.unit (s := S1024x256) ![128 * ρ.val, 0] S128x256.size h').emb (ix2 a d) 1).val = 0 + 1 * d.val := rfl
  refine View.ld_unit_apply_of _ _ _ _ _ _ fun b => ?_
  fin_cases b
  · show (0 : ℕ) = 0 + 0; rfl
  · show (_ : ℕ) % 128 = 0 + a.val
    rw [e0]; omega
  · show 256 * ((_ : ℕ) / 128) + (_ : ℕ) = 256 * ρ.val + d.val
    rw [e0, e1]; omega

/-- One head's store into the scale scratch. -/
theorem cPiece (ρ : Fin 8) (hs : 0 ≤ x0 (ix2 (gOf i) ρ)) (h') (x : S128x128.Idx) :
    k0_pay22 (F := Ideal) (x0 (ix2 (gOf i) ρ)) x = cTile i x0 ((Rect.unit (s := S1024x128) ![128 * ρ.val, 0] S128x128.size h').emb x) := by
  rw [pay22_apply _ hs]
  have e0 : ((Rect.unit (s := S1024x128) ![128 * ρ.val, 0] S128x128.size h').emb x 0).val = 128 * ρ.val + 1 * (x 0).val := rfl
  have h0 : (x 0).val < 128 := (x 0).isLt
  unfold cTile
  congr 3
  ext
  show ρ.val = (_ : ℕ) / 128
  rw [e0]; omega

/-- The query scratch, where no product of scales is negative. -/
theorem q_read (hx : ∀ ρ : Fin 8, 0 ≤ x0 (ix2 (gOf i) ρ)) (y : S1024x256.Idx) :
    arg9.view.readCov (kernelRun0_A.sl.HS0_8 (F := Ideal) c i arg3 harg3 arg5 harg5 x0 x2) B256 y = qTile x2 y := by
  rw [View.readCov_eq_canon']
  show View.canon _ (B256.idx y) = _
  have e : B256.idx y = y := by
    funext a; ext
    refine (Rect.idx_unit_val ![0, 0] S1024x256.size inb_S1024x256_S1024x256_0_0 y a).trans ?_
    fin_cases a <;> exact Nat.zero_add _
  rw [e]
  unfold kernelRun0_A.sl.HS0_8
  refine View.canon_apply_of_pieces (Val := Elt Ideal) (e := .fp8e4m3) (qTile x2) _ (fun p hp x => ?_) y (View.cover_of_tiled_head _ _ _ ?_ y)
  rotate_left
  · rfl
  simp only [List.mem_cons, List.not_mem_nil, or_false] at hp
  rcases hp with rfl | rfl | rfl | rfl | rfl | rfl | rfl | rfl
  · rw [r7_eq]; exact qPiece arg5 harg5 x2 7 _ (hx _) inb_S1x128x2048_S1x128x256_0_0_1792 inb_S1024x256_S128x256_896_0 x
  · rw [r6_eq]; exact qPiece arg5 harg5 x2 6 _ (hx _) inb_S1x128x2048_S1x128x256_0_0_1536 inb_S1024x256_S128x256_768_0 x
  · rw [r5_eq]; exact qPiece arg5 harg5 x2 5 _ (hx _) inb_S1x128x2048_S1x128x256_0_0_1280 inb_S1024x256_S128x256_640_0 x
  · rw [r4_eq]; exact qPiece arg5 harg5 x2 4 _ (hx _) inb_S1x128x2048_S1x128x256_0_0_1024 inb_S1024x256_S128x256_512_0 x
  · rw [r3_eq]; exact qPiece arg5 harg5 x2 3 _ (hx _) inb_S1x128x2048_S1x128x256_0_0_768 inb_S1024x256_S128x256_384_0 x
  · rw [r2_eq]; exact qPiece arg5 harg5 x2 2 _ (hx _) inb_S1x128x2048_S1x128x256_0_0_512 inb_S1024x256_S128x256_256_0 x
  · rw [r1_eq]; exact qPiece arg5 harg5 x2 1 _ (hx _) inb_S1x128x2048_S1x128x256_0_0_256 inb_S1024x256_S128x256_128_0 x
  · rw [r0_eq]; exact qPiece arg5 harg5 x2 0 _ (hx _) inb_S1x128x2048_S1x128x256_0_0_0 inb_S1024x256_S128x256_0_0 x

/-- The scale scratch, where no product of scales is negative. -/
theorem c_read (hx : ∀ ρ : Fin 8, 0 ≤ x0 (ix2 (gOf i) ρ)) (y : S1024x128.Idx) :
    arg10.view.readCov (kernelRun0_A.sl.HS1_8 (F := Ideal) c i arg3 harg3 x0) B128 y = cTile i x0 y := by
  rw [View.readCov_eq_canon']
  show View.canon _ (B128.idx y) = _
  have e : B128.idx y = y := by
    funext a; ext
    refine (Rect.idx_unit_val ![0, 0] S1024x128.size inb_S1024x128_S1024x128_0_0 y a).trans ?_
    fin_cases a <;> exact Nat.zero_add _
  rw [e]
  unfold kernelRun0_A.sl.HS1_8
  refine View.canon_apply_of_pieces (Val := Elt Ideal) (e := .f32) (cTile i x0) _ (fun p hp x => ?_) y (View.cover_of_tiled_head _ _ _ ?_ y)
  rotate_left
  · rfl
  simp only [List.mem_cons, List.not_mem_nil, or_false] at hp
  rcases hp with rfl | rfl | rfl | rfl | rfl | rfl | rfl | rfl
  · rw [r7_eq]; exact cPiece i x0 7 (hx _) inb_S1024x128_S128x128_896_0 x
  · rw [r6_eq]; exact cPiece i x0 6 (hx _) inb_S1024x128_S128x128_768_0 x
  · rw [r5_eq]; exact cPiece i x0 5 (hx _) inb_S1024x128_S128x128_640_0 x
  · rw [r4_eq]; exact cPiece i x0 4 (hx _) inb_S1024x128_S128x128_512_0 x
  · rw [r3_eq]; exact cPiece i x0 3 (hx _) inb_S1024x128_S128x128_384_0 x
  · rw [r2_eq]; exact cPiece i x0 2 (hx _) inb_S1024x128_S128x128_256_0 x
  · rw [r1_eq]; exact cPiece i x0 1 (hx _) inb_S1024x128_S128x128_128_0 x
  · rw [r0_eq]; exact cPiece i x0 0 (hx _) inb_S1024x128_S128x128_0_0 x

end Cert.Attn

end
-- ==== Proof.RunMax.lean ====
module

public import proofs.«01_k».proof.Proof.Scratch

@[expose] public section

set_option maxRecDepth 16384

noncomputable section

namespace Cert.Attn

open Idealize.ShloMosaic Cert.KernelIdeal Cert.KernelIdeal.Gen

/-- The codes' score of query `a` of head `ρ` in a query block against key `k`. -/
def scoreOf (x2 : S1x128x2048.Idx → EReal) (x3 : S1x8192x256.Idx → EReal) (ρ : Fin 8) (a : Fin 128) (k : ℕ) : EReal :=
  ∑ d : Fin 256, x2 (ix3 0 a ⟨256 * ρ.val + d.val, by omega⟩) * x3 (ix3 0 ⟨k % 8192, Nat.mod_lt _ (by omega)⟩ d)

/-- Component `d` of value `k`. -/
def valueOf (x4 : S1x8192x256.Idx → EReal) (d : Fin 256) (k : ℕ) : EReal := x4 (ix3 0 ⟨k % 8192, Nat.mod_lt _ (by omega)⟩ d)

/-- Row `128 ρ + a` of the scratch buffers. -/
abbrev rowOf (ρ : Fin 8) (a : Fin 128) : Fin 1024 := ⟨128 * ρ.val + a.val, by omega⟩

/-- A tile of 512 rows lies inside the 8192. -/
theorem tile_inb {off : Fin 3 → ℕ} {o : ℕ} (ho : off = ![0, o, 0]) (hb : o + 512 ≤ 8192) (a : Fin 3) : off a + S1x512x256.size a ≤ S1x8192x256.size a := by
  subst ho
  fin_cases a
  · show 0 + 1 ≤ 1; omega
  · show o + 512 ≤ 8192; omega
  · show 0 + 256 ≤ 256; omega

/-- A tile of the keys or values, read at an index. -/
theorem tile_read (m : Memref sig .tc .vmem S1x8192x256 .fp8e4m3) (hm : m.IsWhole) (x : S1x8192x256.Idx → EReal) (off : Fin 3 → ℕ) (h) (o : ℕ) (ho : off = ![0, o, 0]) (hb : o + 512 ≤ 8192)
    (j : Fin 512) (d : Fin 256) : m.view.readAt (Elt Ideal) (BT off h) (hm.unread x) (ix3 0 j d) = x (ix3 0 ⟨(o + j.val) % 8192, Nat.mod_lt _ (by omega)⟩ d) := by
  subst ho
  refine (congrFun (View.readAt_eq_ld _ _ (Rect.unit (s := S1x8192x256) _ S1x512x256.size h)) _).trans ?_
  rw [hm.read_unread]
  refine View.ld_unit_apply_of _ _ _ _ _ _ fun b => ?_
  fin_cases b
  · show (0 : ℕ) = 0 + 0; rfl
  · show (o + j.val) % 8192 = o + j.val; omega
  · show d.val = 0 + d.val; omega

/-- A row of the query tile against a row of a key tile. -/
theorem score_tile (x2 : S1x128x2048.Idx → EReal) (x3 : S1x8192x256.Idx → EReal) (q : Vec Ideal S1024x256 .fp8e4m3) (kt : Vec Ideal S1x512x256 .fp8e4m3) (o : ℕ)
    (hq : ∀ y, q y = qTile x2 y) (hk : ∀ (j : Fin 512) (d : Fin 256), kt (ix3 0 j d) = x3 (ix3 0 ⟨(o + j.val) % 8192, Nat.mod_lt _ (by omega)⟩ d))
    (ρ : Fin 8) (a : Fin 128) (j : Fin 512) : score q kt (rowOf ρ a) j = scoreOf x2 x3 ρ a (o + j.val) := by
  unfold score scoreOf
  refine Finset.sum_congr rfl fun d _ => ?_
  rw [hq, hk]
  congr 1
  unfold qTile
  have e1 : (128 * ρ.val + a.val) % 128 = a.val := by omega
  have e2 : (128 * ρ.val + a.val) / 128 = ρ.val := by omega
  congr 2
  · ext; exact e1
  · ext; show 256 * ((128 * ρ.val + a.val) / 128) + d.val = 256 * ρ.val + d.val; rw [e2]

variable (c : Dev nD) (i : grid0.Coords)
  (arg3 : Memref sig .tc .smem S2x8 .f32) (harg3 : arg3.IsWhole)
  (arg4 : Memref sig .tc .smem S2 .f32) (harg4 : arg4.IsWhole)
  (arg5 : Memref sig .tc .vmem S1x128x2048 .fp8e4m3) (harg5 : arg5.IsWhole)
  (arg6 : Memref sig .tc .vmem S1x8192x256 .fp8e4m3) (harg6 : arg6.IsWhole)
  (arg7 : Memref sig .tc .vmem S1x8192x256 .fp8e4m3) (harg7 : arg7.IsWhole)
  (arg8 : Memref sig .tc .vmem S1x128x2048 .bf16) (harg8 : arg8.IsWhole)
  (arg9 : Memref sig .tc .vmem S1024x256 .fp8e4m3) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x256 .f32) (harg13 : arg13.IsWhole)

variable (x0 : S2x8.Idx → EReal) (x1 : S2.Idx → EReal) (x2 : S1x128x2048.Idx → EReal) (x3 x4 : S1x8192x256.Idx → EReal)

/-- The running maxima after the full tiles. -/
theorem v170_apply (hx : ∀ ρ : Fin 8, 0 ≤ x0 (ix2 (gOf i) ρ)) (ρ : Fin 8) (a : Fin 128) (l : Fin 128) :
    kernelRun0_A.sl.v170 (F := Ideal) c i arg3 harg3 arg4 harg4 arg5 harg5 arg6 harg6 arg7 harg7 arg8 harg8 arg9 harg9 arg10 harg10 arg11 harg11 arg12 harg12 arg13 harg13 x0 x2 x3 (ix2 (rowOf ρ a) l) = (Finset.range (4 * ((i 2).val / 4))).sup fun t => scoreOf x2 x3 ρ a (128 * t + l.val) := by
  unfold kernelRun0_A.sl.v170
  rw [show Scf.trips (k0_t2_loop i).lb (k0_t2_loop i).ub (k0_t2_loop i).st = 0 from trips2 i, pb_k0_t2.eq_1, List.nil_append]
  unfold View.readCov
  rw [View.writes_append]
  have hn : (i 2).val / 4 = (k0_t1_loop i).trips := (trips1 i).symm
  rw [hn]
  have hq := qi_lt i
  refine loop1 c i arg3 harg3 arg4 harg4 arg5 harg5 arg6 harg6 arg7 harg7 arg8 harg8 arg9 harg9 arg10 harg10 arg11 harg11 arg12 harg12 arg13 harg13 _ _ _ _ (rowOf ρ a) (scoreOf x2 x3 ρ a) (fun k => tile_inb (off9_eq i k) (by have := lt_of_lt_of_eq k.isLt (trips1 i); omega)) (fun l => ?_) (fun k j => ?_) _ le_rfl l
  · exact (congrFun (View.readAt_writes_full ..) _).trans (pay44_apply _)
  · exact score_tile x2 x3 _ _ _ (q_read c i arg3 harg3 arg5 harg5 arg9 x0 x2 hx)
      (tile_read arg6 harg6 x3 _ _ _ (off9_eq i k) (by have := lt_of_lt_of_eq k.isLt (trips1 i); omega)) ρ a j

/-- The mask of 128 lanes of the diagonal tile. -/
theorem mask_word (w : ℕ) (hw : w ≤ 384) (ρ : Fin 8) (a l : Fin 128) :
    mask (Scalar.addi (kernelRun0_A.sl.v163 i) (BitVec.ofNat 32 w)) (kernelRun0_A.sl.v0 i) (ix2 (rowOf ρ a) l)
      = BitVec.ofBool (decide (512 * ((i 2).val / 4) + (w + l.val) ≤ 128 * (i 2).val + a.val)) := by
  have hq := qi_lt i
  have e0 : kernelRun0_A.sl.v0 i = BitVec.ofNat 32 (128 * (i 2).val) := by
    unfold kernelRun0_A.sl.v0
    show BitVec.ofNat 32 (i 2).val * BitVec.ofNat 32 128 = _
    rw [← BitVec.ofNat_mul, mul_comm]
  have e1 : Scalar.addi (kernelRun0_A.sl.v163 i) (BitVec.ofNat 32 w) = BitVec.ofNat 32 (512 * ((i 2).val / 4) + w) := by
    rw [kstart_toNat]
    show BitVec.ofNat 32 _ + BitVec.ofNat 32 w = _
    rw [← BitVec.ofNat_add]
  rw [e0, e1, mask_apply _ _ (by omega) (by omega)]
  have e2 : (128 * ρ.val + a.val) % 128 = a.val := by omega
  show BitVec.ofBool (decide (_ ≤ _ + (128 * ρ.val + a.val) % 128)) = _
  rw [e2, add_assoc]

/-- A select on a decided bit is an `if`. -/
theorem select_ofBool {α : Type} (p : Prop) [Decidable p] (x y : α) : Scalar.select (BitVec.ofBool (decide p)) x y = if p then x else y := by
  by_cases h : p <;> simp [h, Scalar.select]

/-- The running maxima after the diagonal tile: the maximum over the keys at most the query's position. -/
theorem v226_apply (hx : ∀ ρ : Fin 8, 0 ≤ x0 (ix2 (gOf i) ρ)) (ρ : Fin 8) (a : Fin 128) (l : Fin 128) :
    kernelRun0_A.sl.v226 (F := Ideal) c i arg3 harg3 arg4 harg4 arg5 harg5 arg6 harg6 arg7 harg7 arg8 harg8 arg9 harg9 arg10 harg10 arg11 harg11 arg12 harg12 arg13 harg13 x0 x2 x3 (ix2 (rowOf ρ a) l)
      = (Finset.range (4 * ((i 2).val / 4 + 1))).sup fun t => if 128 * t + l.val ≤ 128 * (i 2).val + a.val then scoreOf x2 x3 ρ a (128 * t + l.val) else ⊥ := by
  have hq := qi_lt i
  unfold kernelRun0_A.sl.v226 kernelRun0_A.sl.HS2_1_1
  refine (congrFun (View.readCov_full ..) _).trans ?_
  refine (tailM_apply (scores (kernelRun0_A.sl.v165 (F := Ideal) c i arg3 harg3 arg5 harg5 arg9 x0 x2) (arg6.view.readAt (Elt Ideal) (BT (k0_off11 i) (tile_inb (off11_eq i) (by omega))) (harg6.unread x3)))
    (mask (Scalar.addi (kernelRun0_A.sl.v163 i) (BitVec.ofNat 32 0)) (kernelRun0_A.sl.v0 i)) (mask (Scalar.addi (kernelRun0_A.sl.v163 i) (BitVec.ofNat 32 128)) (kernelRun0_A.sl.v0 i))
    (mask (Scalar.addi (kernelRun0_A.sl.v163 i) (BitVec.ofNat 32 256)) (kernelRun0_A.sl.v0 i)) (mask (Scalar.addi (kernelRun0_A.sl.v163 i) (BitVec.ofNat 32 384)) (kernelRun0_A.sl.v0 i))
    (kernelRun0_A.sl.v170 (F := Ideal) c i arg3 harg3 arg4 harg4 arg5 harg5 arg6 harg6 arg7 harg7 arg8 harg8 arg9 harg9 arg10 harg10 arg11 harg11 arg12 harg12 arg13 harg13 x0 x2 x3) (rowOf ρ a) l).trans ?_
  have hs : ∀ j : Fin 512, score (kernelRun0_A.sl.v165 (F := Ideal) c i arg3 harg3 arg5 harg5 arg9 x0 x2) (arg6.view.readAt (Elt Ideal) (BT (k0_off11 i) (tile_inb (off11_eq i) (by omega))) (harg6.unread x3)) (rowOf ρ a) j
      = scoreOf x2 x3 ρ a (512 * ((i 2).val / 4) + j.val) := fun j =>
    score_tile x2 x3 _ _ _ (q_read c i arg3 harg3 arg5 harg5 arg9 x0 x2 hx) (tile_read arg6 harg6 x3 _ _ _ (off11_eq i) (by omega)) ρ a j
  rw [mask_word i 0 (by omega), mask_word i 128 (by omega), mask_word i 256 (by omega), mask_word i 384 (by omega)]
  simp only [select_ofBool, scores_apply, hs, v170_apply c i arg3 harg3 arg4 harg4 arg5 harg5 arg6 harg6 arg7 harg7 arg8 harg8 arg9 harg9 arg10 harg10 arg11 harg11 arg12 harg12 arg13 harg13 x0 x2 x3 hx]
  rw [sup_four (fun k => if k ≤ 128 * (i 2).val + a.val then scoreOf x2 x3 ρ a k else ⊥)]
  have e : ((Finset.range (4 * ((i 2).val / 4))).sup fun t => scoreOf x2 x3 ρ a (128 * t + l.val))
      = (Finset.range (4 * ((i 2).val / 4))).sup fun t => if 128 * t + l.val ≤ 128 * (i 2).val + a.val then scoreOf x2 x3 ρ a (128 * t + l.val) else ⊥ :=
    Finset.sup_congr rfl fun t ht => by
      have := Finset.mem_range.1 ht
      rw [if_pos (by omega)]
  rw [e, zero_add]

end Cert.Attn

end
-- ==== Proof.RunSum.lean ====
module

public import proofs.«01_k».proof.Proof.RunMax

@[expose] public section

set_option maxRecDepth 16384

noncomputable section

namespace Cert.Attn

open Idealize.ShloMosaic Cert.KernelIdeal Cert.KernelIdeal.Gen

/-- A supremum over the numbers below `n`, over `Fin n`. -/
theorem univ_sup {n : ℕ} (f : ℕ → EReal) : (Finset.univ.sup fun l : Fin n => f l.val) = (Finset.range n).sup f := by
  apply le_antisymm
  · exact Finset.sup_le fun l _ => Finset.le_sup (f := f) (Finset.mem_range.2 l.isLt)
  · exact Finset.sup_le fun k hk => Finset.le_sup (f := fun l : Fin n => f l.val) (Finset.mem_univ (⟨k, Finset.mem_range.1 hk⟩ : Fin n))

/-- Keys past the query's position do not enter the row maximum. -/
theorem rowMax_short (S : ℕ → EReal) (q n : ℕ) (hn : n ≤ 8192) (hq : q < n) : ((Finset.range n).sup fun k => if k ≤ q then S k else ⊥) = rowMax S q := by
  apply le_antisymm
  · exact Finset.sup_mono (by simpa using hn)
  · refine Finset.sup_le fun k _ => ?_
    by_cases h : k ≤ q
    · exact Finset.le_sup (f := fun k => if k ≤ q then S k else ⊥) (Finset.mem_range.2 (by omega))
    · rw [if_neg h]; exact bot_le

/-- Keys past the query's position have weight zero. -/
theorem kW_late (c : EReal) (S : ℕ → EReal) (q k : ℕ) (h : q < k) : kW c S q k = 0 := by
  unfold kW
  rw [if_neg (by omega), exp2_bot]

/-- Keys past the query's position do not enter the denominator. -/
theorem sum_kW_short (c : EReal) (S : ℕ → EReal) (q n : ℕ) (hn : n ≤ 8192) (hq : q < n) : ∑ k ∈ Finset.range n, kW c S q k = ∑ k ∈ Finset.range 8192, kW c S q k :=
  Finset.sum_subset (by simpa using hn) fun k _ hk => kW_late c S q k (by simp at hk; omega)

/-- Keys past the query's position do not enter the weighted sums. -/
theorem sum_sat_short (c : EReal) (S V : ℕ → EReal) (q n : ℕ) (hn : n ≤ 8192) (hq : q < n) :
    ∑ k ∈ Finset.range n, sat (kW c S q k) * V k = ∑ k ∈ Finset.range 8192, sat (kW c S q k) * V k :=
  Finset.sum_subset (by simpa using hn) fun k _ hk => by
    rw [kW_late c S q k (by simp at hk; omega)]
    have : sat 0 = 0 := by
      unfold sat
      rw [max_eq_right (by exact_mod_cast (by norm_num : (-448 : ℝ) ≤ 0)), min_eq_right (by exact_mod_cast (by norm_num : (0 : ℝ) ≤ 448))]
    rw [this, zero_mul]

variable (c : Dev nD) (i : grid0.Coords)
  (arg3 : Memref sig .tc .smem S2x8 .f32) (harg3 : arg3.IsWhole)
  (arg4 : Memref sig .tc .smem S2 .f32) (harg4 : arg4.IsWhole)
  (arg5 : Memref sig .tc .vmem S1x128x2048 .fp8e4m3) (harg5 : arg5.IsWhole)
  (arg6 : Memref sig .tc .vmem S1x8192x256 .fp8e4m3) (harg6 : arg6.IsWhole)
  (arg7 : Memref sig .tc .vmem S1x8192x256 .fp8e4m3) (harg7 : arg7.IsWhole)
  (arg8 : Memref sig .tc .vmem S1x128x2048 .bf16) (harg8 : arg8.IsWhole)
  (arg9 : Memref sig .tc .vmem S1024x256 .fp8e4m3) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x256 .f32) (harg13 : arg13.IsWhole)

variable (x0 : S2x8.Idx → EReal) (x1 : S2.Idx → EReal) (x2 : S1x128x2048.Idx → EReal) (x3 x4 : S1x8192x256.Idx → EReal)

/-- A row of the scale scratch holds the head's scale in base two. -/
theorem cTile_row (ρ : Fin 8) (a : Fin 128) (l : Fin 128) : cTile i x0 (ix2 (rowOf ρ a) l) = x0 (ix2 (gOf i) ρ) * lg := by
  unfold cTile
  have e : (128 * ρ.val + a.val) / 128 = ρ.val := by omega
  congr 3
  ext; exact e

/-- What the second pass subtracts in a row. -/
theorem v259_apply (hx : ∀ ρ : Fin 8, 0 ≤ x0 (ix2 (gOf i) ρ)) (ρ : Fin 8) (a : Fin 128) (l : Fin 128) (L) :
    (arg11.view.readCov (Val := Elt Ideal) (⟨Rect.unit (s := S1024x128) ![0, 0] S1024x128.size inb_S1024x128_S1024x128_0_0,
        k0_pay53 (F := Ideal) (kernelRun0_A.sl.v226 (F := Ideal) c i arg3 harg3 arg4 harg4 arg5 harg5 arg6 harg6 arg7 harg7 arg8 harg8 arg9 harg9 arg10 harg10 arg11 harg11 arg12 harg12 arg13 harg13 x0 x2 x3) (kernelRun0_A.sl.v231 (F := Ideal) c i arg3 harg3 arg10 x0)⟩ :: L) B128 (ix2 (rowOf ρ a) l) : EReal)
      = rowMax (scoreOf x2 x3 ρ a) (128 * (i 2).val + a.val) * (x0 (ix2 (gOf i) ρ) * lg) - ((8 : ℝ) : EReal) := by
  have hq := qi_lt i
  refine (congrFun (View.readCov_full ..) _).trans ?_
  rw [pay53_apply]
  unfold kernelRun0_A.sl.v231
  rw [c_read c i arg3 harg3 arg10 x0 hx, cTile_row]
  simp only [v226_apply c i arg3 harg3 arg4 harg4 arg5 harg5 arg6 harg6 arg7 harg7 arg8 harg8 arg9 harg9 arg10 harg10 arg11 harg11 arg12 harg12 arg13 harg13 x0 x2 x3 hx]
  congr 2
  refine (univ_sup (n := 128) fun l => (Finset.range (4 * ((i 2).val / 4 + 1))).sup fun t => if 128 * t + l ≤ 128 * (i 2).val + a.val then scoreOf x2 x3 ρ a (128 * t + l) else ⊥).trans ?_
  rw [sup_lanes (fun k => if k ≤ 128 * (i 2).val + a.val then scoreOf x2 x3 ρ a k else ⊥)]
  exact rowMax_short _ _ _ (by omega) (by omega)

/-- The weight of key `k` for a row of the grid point. -/
abbrev wOf (ρ : Fin 8) (a : Fin 128) (k : ℕ) : EReal := kW (x0 (ix2 (gOf i) ρ)) (scoreOf x2 x3 ρ a) (128 * (i 2).val + a.val) k

/-- A weight of a key that is kept. -/
theorem wOf_keep (ρ : Fin 8) (a : Fin 128) (k : ℕ) (h : k ≤ 128 * (i 2).val + a.val) :
    Ideal.exp2 (scoreOf x2 x3 ρ a k * (x0 (ix2 (gOf i) ρ) * lg) - (rowMax (scoreOf x2 x3 ρ a) (128 * (i 2).val + a.val) * (x0 (ix2 (gOf i) ρ) * lg) - ((8 : ℝ) : EReal))) = wOf i x0 x2 x3 ρ a k := by
  unfold wOf kW
  rw [if_pos h]

/-- The denominators and weighted sums after the full tiles. -/
theorem loop3_run (hx : ∀ ρ : Fin 8, 0 ≤ x0 (ix2 (gOf i) ρ)) (ρ : Fin 8) (a : Fin 128) (v209 v210 v219) (L) :
    (∀ l : Fin 128, arg12.view.readAt (Elt Ideal) B128 (arg12.view.writes (Elt Ideal) (arg12.view.writes (Elt Ideal) arg12.view.junk (kernelRun0_A.sl.HS3_1 (F := Ideal)))
      (pb_k0_t3 (F := Ideal) Variants.none c none i arg3 harg3 arg4 harg4 arg5 harg5 arg6 harg6 arg7 harg7 arg8 harg8 arg9 harg9 arg10 harg10 arg11 harg11 arg12 harg12 arg13 harg13 (kernelRun0_A.sl.v17 i) v209 v210 v219 (harg6.unread x3) (harg7.unread x4) (arg9.view.writes (Elt Ideal) arg9.view.junk (kernelRun0_A.sl.HS0_8 (F := Ideal) c i arg3 harg3 arg5 harg5 x0 x2)) (arg10.view.writes (Elt Ideal) arg10.view.junk (kernelRun0_A.sl.HS1_8 (F := Ideal) c i arg3 harg3 x0)) (arg11.view.writes (Elt Ideal) arg11.view.junk (⟨Rect.unit (s := S1024x128) ![0, 0] S1024x128.size inb_S1024x128_S1024x128_0_0, k0_pay53 (F := Ideal) (kernelRun0_A.sl.v226 (F := Ideal) c i arg3 harg3 arg4 harg4 arg5 harg5 arg6 harg6 arg7 harg7 arg8 harg8 arg9 harg9 arg10 harg10 arg11 harg11 arg12 harg12 arg13 harg13 x0 x2 x3) (kernelRun0_A.sl.v231 (F := Ideal) c i arg3 harg3 arg10 x0)⟩ :: L)) (arg12.view.writes (Elt Ideal) arg12.view.junk (kernelRun0_A.sl.HS3_1 (F := Ideal))) (arg13.view.writes (Elt Ideal) arg13.view.junk (kernelRun0_A.sl.HS4_1 (F := Ideal))) (k0_t3_loop i).trips).1) (ix2 (rowOf ρ a) l) = ∑ t ∈ Finset.range (4 * (k0_t3_loop i).trips), wOf i x0 x2 x3 ρ a (128 * t + l.val)) ∧
    (∀ d : Fin 256, arg13.view.readAt (Elt Ideal) B256 (arg13.view.writes (Elt Ideal) (arg13.view.writes (Elt Ideal) arg13.view.junk (kernelRun0_A.sl.HS4_1 (F := Ideal)))
      (pb_k0_t3 (F := Ideal) Variants.none c none i arg3 harg3 arg4 harg4 arg5 harg5 arg6 harg6 arg7 harg7 arg8 harg8 arg9 harg9 arg10 harg10 arg11 harg11 arg12 harg12 arg13 harg13 (kernelRun0_A.sl.v17 i) v209 v210 v219 (harg6.unread x3) (harg7.unread x4) (arg9.view.writes (Elt Ideal) arg9.view.junk (kernelRun0_A.sl.HS0_8 (F := Ideal) c i arg3 harg3 arg5 harg5 x0 x2)) (arg10.view.writes (Elt Ideal) arg10.view.junk (kernelRun0_A.sl.HS1_8 (F := Ideal) c i arg3 harg3 x0)) (arg11.view.writes (Elt Ideal) arg11.view.junk (⟨Rect.unit (s := S1024x128) ![0, 0] S1024x128.size inb_S1024x128_S1024x128_0_0, k0_pay53 (F := Ideal) (kernelRun0_A.sl.v226 (F := Ideal) c i arg3 harg3 arg4 harg4 arg5 harg5 arg6 harg6 arg7 harg7 arg8 harg8 arg9 harg9 arg10 harg10 arg11 harg11 arg12 harg12 arg13 harg13 x0 x2 x3) (kernelRun0_A.sl.v231 (F := Ideal) c i arg3 harg3 arg10 x0)⟩ :: L)) (arg12.view.writes (Elt Ideal) arg12.view.junk (kernelRun0_A.sl.HS3_1 (F := Ideal))) (arg13.view.writes (Elt Ideal) arg13.view.junk (kernelRun0_A.sl.HS4_1 (F := Ideal))) (k0_t3_loop i).trips).2) (ix2 (rowOf ρ a) d) = ∑ k ∈ Finset.range (512 * (k0_t3_loop i).trips), sat (wOf i x0 x2 x3 ρ a k) * valueOf x4 d k) :=
  loop3 c i arg3 harg3 arg4 harg4 arg5 harg5 arg6 harg6 arg7 harg7 arg8 harg8 arg9 harg9 arg10 harg10 arg11 harg11 arg12 harg12 arg13 harg13 (kernelRun0_A.sl.v17 i) v209 v210 v219 (harg6.unread x3) (harg7.unread x4)
    (arg9.view.writes (Elt Ideal) arg9.view.junk (kernelRun0_A.sl.HS0_8 (F := Ideal) c i arg3 harg3 arg5 harg5 x0 x2))
    (arg10.view.writes (Elt Ideal) arg10.view.junk (kernelRun0_A.sl.HS1_8 (F := Ideal) c i arg3 harg3 x0))
    (arg11.view.writes (Elt Ideal) arg11.view.junk (⟨Rect.unit (s := S1024x128) ![0, 0] S1024x128.size inb_S1024x128_S1024x128_0_0,
        k0_pay53 (F := Ideal) (kernelRun0_A.sl.v226 (F := Ideal) c i arg3 harg3 arg4 harg4 arg5 harg5 arg6 harg6 arg7 harg7 arg8 harg8 arg9 harg9 arg10 harg10 arg11 harg11 arg12 harg12 arg13 harg13 x0 x2 x3) (kernelRun0_A.sl.v231 (F := Ideal) c i arg3 harg3 arg10 x0)⟩ :: L))
    (arg12.view.writes (Elt Ideal) arg12.view.junk (kernelRun0_A.sl.HS3_1 (F := Ideal)))
    (arg13.view.writes (Elt Ideal) arg13.view.junk (kernelRun0_A.sl.HS4_1 (F := Ideal)))
    (rowOf ρ a) (x0 (ix2 (gOf i) ρ) * lg) (rowMax (scoreOf x2 x3 ρ a) (128 * (i 2).val + a.val) * (x0 (ix2 (gOf i) ρ) * lg) - ((8 : ℝ) : EReal))
    (wOf i x0 x2 x3 ρ a) (valueOf x4)
    (fun k => tile_inb (off12_eq i k) (by have := lt_of_lt_of_eq k.isLt (trips3 i); have hq := qi_lt i; omega))
    (fun l => (congrFun (View.readAt_writes_full ..) _).trans (pay54_apply _))
    (fun l => (congrFun (View.readAt_writes_full ..) _).trans (pay55_apply _))
    (fun l => (c_read c i arg3 harg3 arg10 x0 hx _).trans (cTile_row i x0 ρ a l))
    (fun l => v259_apply c i arg3 harg3 arg4 harg4 arg5 harg5 arg6 harg6 arg7 harg7 arg8 harg8 arg9 harg9 arg10 harg10 arg11 harg11 arg12 harg12 arg13 harg13 x0 x2 x3 hx ρ a l L)
    (fun k j => by
      have hk := lt_of_lt_of_eq k.isLt (trips3 i)
      have hq := qi_lt i
      exact (congrArg (fun s => Ideal.exp2 (s * _ - _)) (score_tile x2 x3 _ _ _ (q_read c i arg3 harg3 arg5 harg5 arg9 x0 x2 hx) (tile_read arg6 harg6 x3 _ _ _ (off12_eq i k) (by omega)) ρ a j)).trans
        (wOf_keep i x0 x2 x3 ρ a _ (by omega)))
    (fun k j d => tile_read arg7 harg7 x4 _ _ _ (off12_eq i k) (by have := lt_of_lt_of_eq k.isLt (trips3 i); have hq := qi_lt i; omega) j d)
    _ le_rfl

/-- The denominators after the full tiles. -/
theorem v260_apply (hx : ∀ ρ : Fin 8, 0 ≤ x0 (ix2 (gOf i) ρ)) (ρ : Fin 8) (a : Fin 128) (l : Fin 128) :
    kernelRun0_A.sl.v260 (F := Ideal) c i arg3 harg3 arg4 harg4 arg5 harg5 arg6 harg6 arg7 harg7 arg8 harg8 arg9 harg9 arg10 harg10 arg11 harg11 arg12 harg12 arg13 harg13 x0 x2 x3 x4 (ix2 (rowOf ρ a) l) = ∑ t ∈ Finset.range (4 * ((i 2).val / 4)), wOf i x0 x2 x3 ρ a (128 * t + l.val) := by
  unfold kernelRun0_A.sl.v260
  rw [show Scf.trips (k0_t4_loop i).lb (k0_t4_loop i).ub (k0_t4_loop i).st = 0 from trips4 i, pb_k0_t4.eq_1, List.nil_append]
  unfold View.readCov
  rw [View.writes_append]
  refine ((loop3_run c i arg3 harg3 arg4 harg4 arg5 harg5 arg6 harg6 arg7 harg7 arg8 harg8 arg9 harg9 arg10 harg10 arg11 harg11 arg12 harg12 arg13 harg13 x0 x2 x3 x4 hx ρ a _ _ _ _).1 l).trans ?_
  rw [trips3]

/-- The weighted sums after the full tiles. -/
theorem v349_apply (hx : ∀ ρ : Fin 8, 0 ≤ x0 (ix2 (gOf i) ρ)) (ρ : Fin 8) (a : Fin 128) (d : Fin 256) :
    kernelRun0_A.sl.v349 (F := Ideal) c i arg3 harg3 arg4 harg4 arg5 harg5 arg6 harg6 arg7 harg7 arg8 harg8 arg9 harg9 arg10 harg10 arg11 harg11 arg12 harg12 arg13 harg13 x0 x2 x3 x4 (ix2 (rowOf ρ a) d) = ∑ k ∈ Finset.range (512 * ((i 2).val / 4)), sat (wOf i x0 x2 x3 ρ a k) * valueOf x4 d k := by
  unfold kernelRun0_A.sl.v349
  rw [show Scf.trips (k0_t4_loop i).lb (k0_t4_loop i).ub (k0_t4_loop i).st = 0 from trips4 i, pb_k0_t4.eq_1, List.nil_append]
  unfold View.readCov
  rw [View.writes_append]
  refine ((loop3_run c i arg3 harg3 arg4 harg4 arg5 harg5 arg6 harg6 arg7 harg7 arg8 harg8 arg9 harg9 arg10 harg10 arg11 harg11 arg12 harg12 arg13 harg13 x0 x2 x3 x4 hx ρ a _ _ _ _).2 d).trans ?_
  rw [trips3]

/-- A weight is the power of two of the masked exponent. -/
theorem wOf_mask (ρ : Fin 8) (a : Fin 128) (k : ℕ) :
    Ideal.exp2 (if k ≤ 128 * (i 2).val + a.val then scoreOf x2 x3 ρ a k * (x0 (ix2 (gOf i) ρ) * lg) - (rowMax (scoreOf x2 x3 ρ a) (128 * (i 2).val + a.val) * (x0 (ix2 (gOf i) ρ) * lg) - ((8 : ℝ) : EReal)) else ⊥)
      = wOf i x0 x2 x3 ρ a k := rfl

/-- The diagonal tile's scores. -/
theorem diag_score (hx : ∀ ρ : Fin 8, 0 ≤ x0 (ix2 (gOf i) ρ)) (ρ : Fin 8) (a : Fin 128) (h) (j : Fin 512) :
    score (kernelRun0_A.sl.v253 (F := Ideal) c i arg3 harg3 arg5 harg5 arg9 x0 x2) (arg6.view.readAt (Elt Ideal) (BT (k0_off11 i) h) (harg6.unread x3)) (rowOf ρ a) j
      = scoreOf x2 x3 ρ a (512 * ((i 2).val / 4) + j.val) :=
  score_tile x2 x3 _ _ _ (q_read c i arg3 harg3 arg5 harg5 arg9 x0 x2 hx) (tile_read arg6 harg6 x3 _ _ _ (off11_eq i) (by have hq := qi_lt i; omega)) ρ a j

/-- The denominators after the diagonal tile. -/
theorem v347_apply (hx : ∀ ρ : Fin 8, 0 ≤ x0 (ix2 (gOf i) ρ)) (ρ : Fin 8) (a : Fin 128) (l : Fin 128) :
    kernelRun0_A.sl.v347 (F := Ideal) c i arg3 harg3 arg4 harg4 arg5 harg5 arg6 harg6 arg7 harg7 arg8 harg8 arg9 harg9 arg10 harg10 arg11 harg11 arg12 harg12 arg13 harg13 x0 x2 x3 x4 (ix2 (rowOf ρ a) l) = ∑ t ∈ Finset.range (4 * ((i 2).val / 4 + 1)), wOf i x0 x2 x3 ρ a (128 * t + l.val) := by
  have hq := qi_lt i
  refine (tailL_apply (scores (kernelRun0_A.sl.v253 (F := Ideal) c i arg3 harg3 arg5 harg5 arg9 x0 x2) (arg6.view.readAt (Elt Ideal) (BT (k0_off11 i) (tile_inb (off11_eq i) (by omega))) (harg6.unread x3)))
    (kernelRun0_A.sl.v258 (F := Ideal) c i arg3 harg3 arg10 x0) (kernelRun0_A.sl.v259 (F := Ideal) c i arg3 harg3 arg4 harg4 arg5 harg5 arg6 harg6 arg7 harg7 arg8 harg8 arg9 harg9 arg10 harg10 arg11 harg11 arg12 harg12 arg13 harg13 x0 x2 x3) (kernelRun0_A.sl.v260 (F := Ideal) c i arg3 harg3 arg4 harg4 arg5 harg5 arg6 harg6 arg7 harg7 arg8 harg8 arg9 harg9 arg10 harg10 arg11 harg11 arg12 harg12 arg13 harg13 x0 x2 x3 x4)
    (mask (Scalar.addi (kernelRun0_A.sl.v163 i) (BitVec.ofNat 32 0)) (kernelRun0_A.sl.v0 i)) (mask (Scalar.addi (kernelRun0_A.sl.v163 i) (BitVec.ofNat 32 128)) (kernelRun0_A.sl.v0 i))
    (mask (Scalar.addi (kernelRun0_A.sl.v163 i) (BitVec.ofNat 32 256)) (kernelRun0_A.sl.v0 i)) (mask (Scalar.addi (kernelRun0_A.sl.v163 i) (BitVec.ofNat 32 384)) (kernelRun0_A.sl.v0 i))
    (rowOf ρ a) l _ _ (fun l => (c_read c i arg3 harg3 arg10 x0 hx _).trans (cTile_row i x0 ρ a l)) (fun l => v259_apply c i arg3 harg3 arg4 harg4 arg5 harg5 arg6 harg6 arg7 harg7 arg8 harg8 arg9 harg9 arg10 harg10 arg11 harg11 arg12 harg12 arg13 harg13 x0 x2 x3 hx ρ a l _)).trans ?_
  rw [mask_word i 0 (by omega), mask_word i 128 (by omega), mask_word i 256 (by omega), mask_word i 384 (by omega)]
  simp only [select_ofBool, scores_apply, diag_score c i arg3 harg3 arg5 harg5 arg6 harg6 arg9 x0 x2 x3 hx, v260_apply c i arg3 harg3 arg4 harg4 arg5 harg5 arg6 harg6 arg7 harg7 arg8 harg8 arg9 harg9 arg10 harg10 arg11 harg11 arg12 harg12 arg13 harg13 x0 x2 x3 x4 hx]
  rw [sum_four, zero_add]
  simp only [wOf_mask]

/-- The weighted sums after the diagonal tile. -/
theorem v357_apply (hx : ∀ ρ : Fin 8, 0 ≤ x0 (ix2 (gOf i) ρ)) (ρ : Fin 8) (a : Fin 128) (d : Fin 256) :
    kernelRun0_A.sl.v357 (F := Ideal) c i arg3 harg3 arg4 harg4 arg5 harg5 arg6 harg6 arg7 harg7 arg8 harg8 arg9 harg9 arg10 harg10 arg11 harg11 arg12 harg12 arg13 harg13 x0 x2 x3 x4 (ix2 (rowOf ρ a) d) = ∑ k ∈ Finset.range (512 * ((i 2).val / 4 + 1)), sat (wOf i x0 x2 x3 ρ a k) * valueOf x4 d k := by
  have hq := qi_lt i
  refine (tailA_apply (scores (kernelRun0_A.sl.v253 (F := Ideal) c i arg3 harg3 arg5 harg5 arg9 x0 x2) (arg6.view.readAt (Elt Ideal) (BT (k0_off11 i) (tile_inb (off11_eq i) (by omega))) (harg6.unread x3)))
    (kernelRun0_A.sl.v258 (F := Ideal) c i arg3 harg3 arg10 x0) (kernelRun0_A.sl.v259 (F := Ideal) c i arg3 harg3 arg4 harg4 arg5 harg5 arg6 harg6 arg7 harg7 arg8 harg8 arg9 harg9 arg10 harg10 arg11 harg11 arg12 harg12 arg13 harg13 x0 x2 x3) (kernelRun0_A.sl.v349 (F := Ideal) c i arg3 harg3 arg4 harg4 arg5 harg5 arg6 harg6 arg7 harg7 arg8 harg8 arg9 harg9 arg10 harg10 arg11 harg11 arg12 harg12 arg13 harg13 x0 x2 x3 x4)
    (arg7.view.readAt (Elt Ideal) (BT (k0_off11 i) (tile_inb (off11_eq i) (by omega))) (harg7.unread x4))
    (mask (Scalar.addi (kernelRun0_A.sl.v163 i) (BitVec.ofNat 32 0)) (kernelRun0_A.sl.v0 i)) (mask (Scalar.addi (kernelRun0_A.sl.v163 i) (BitVec.ofNat 32 128)) (kernelRun0_A.sl.v0 i))
    (mask (Scalar.addi (kernelRun0_A.sl.v163 i) (BitVec.ofNat 32 256)) (kernelRun0_A.sl.v0 i)) (mask (Scalar.addi (kernelRun0_A.sl.v163 i) (BitVec.ofNat 32 384)) (kernelRun0_A.sl.v0 i))
    (rowOf ρ a) d _ _ (fun l => (c_read c i arg3 harg3 arg10 x0 hx _).trans (cTile_row i x0 ρ a l)) (fun l => v259_apply c i arg3 harg3 arg4 harg4 arg5 harg5 arg6 harg6 arg7 harg7 arg8 harg8 arg9 harg9 arg10 harg10 arg11 harg11 arg12 harg12 arg13 harg13 x0 x2 x3 hx ρ a l _)
    (fun m => BitVec.ofBool (decide (512 * ((i 2).val / 4) + m ≤ 128 * (i 2).val + a.val)))
    (fun l => (mask_word i 0 (by omega) ρ a l).trans (by rw [zero_add])) (mask_word i 128 (by omega) ρ a) (mask_word i 256 (by omega) ρ a) (mask_word i 384 (by omega) ρ a)).trans ?_
  simp only [select_ofBool, scores_apply, diag_score c i arg3 harg3 arg5 harg5 arg6 harg6 arg9 x0 x2 x3 hx, v349_apply c i arg3 harg3 arg4 harg4 arg5 harg5 arg6 harg6 arg7 harg7 arg8 harg8 arg9 harg9 arg10 harg10 arg11 harg11 arg12 harg12 arg13 harg13 x0 x2 x3 x4 hx]
  rw [sum_tile]
  simp only [wOf_mask]
  congr 1
  refine Finset.sum_congr rfl fun j _ => ?_
  congr 1
  exact tile_read arg7 harg7 x4 _ _ _ (off11_eq i) (by omega) j d

/-- The value scale of the grid point's group. -/
theorem r9_eq : kernelRun0_A.sl.r_9 (F := Ideal) c i arg4 harg4 x1 = x1 (ix1 (gOf i)) := by
  unfold kernelRun0_A.sl.r_9
  refine (congrFun (View.readAt_eq_ld _ _ (Rect.unit (s := S2) _ S1.size _)) _).trans ?_
  rw [harg4.read_unread]
  refine View.ld_unit_apply_of _ _ _ _ _ _ fun b => ?_
  fin_cases b
  show (i 1).val = k0_off14 i 0 + 0
  rw [k0_off14_eq]
  rfl

/-- The constant 2⁻⁸. -/
theorem inv256 : Ideal.ofBits .f32 0x3B800000#32 = ((1 / 256 : ℝ) : EReal) := by
  simp [Ideal.ofBits, Ideal.ieee, -EReal.coe_mul]; norm_num

/-- A row of the result before it is stored. -/
theorem v370_apply (hx : ∀ ρ : Fin 8, 0 ≤ x0 (ix2 (gOf i) ρ)) (ρ : Fin 8) (a : Fin 128) (d : Fin 256) :
    kernelRun0_A.sl.v370 (F := Ideal) c i arg3 harg3 arg4 harg4 arg5 harg5 arg6 harg6 arg7 harg7 arg8 harg8 arg9 harg9 arg10 harg10 arg11 harg11 arg12 harg12 arg13 harg13 x0 x1 x2 x3 x4 (ix2 (rowOf ρ a) d)
      = kOut (x0 (ix2 (gOf i) ρ)) (x1 (ix1 (gOf i))) (scoreOf x2 x3 ρ a) (valueOf x4 d) (128 * (i 2).val + a.val) := by
  have hq := qi_lt i
  have h1 : kernelRun0_A.sl.v363 (F := Ideal) c i arg3 harg3 arg4 harg4 arg5 harg5 arg6 harg6 arg7 harg7 arg8 harg8 arg9 harg9 arg10 harg10 arg11 harg11 arg12 harg12 arg13 harg13 x0 x2 x3 x4 (ix2 (rowOf ρ a) d) = _ := (congrFun (View.readCov_full ..) _).trans (v357_apply c i arg3 harg3 arg4 harg4 arg5 harg5 arg6 harg6 arg7 harg7 arg8 harg8 arg9 harg9 arg10 harg10 arg11 harg11 arg12 harg12 arg13 harg13 x0 x2 x3 x4 hx ρ a d)
  have h2 (l : Fin 128) : kernelRun0_A.sl.v358 (F := Ideal) c i arg3 harg3 arg4 harg4 arg5 harg5 arg6 harg6 arg7 harg7 arg8 harg8 arg9 harg9 arg10 harg10 arg11 harg11 arg12 harg12 arg13 harg13 x0 x2 x3 x4 (ix2 (rowOf ρ a) l) = _ := (congrFun (View.readCov_full ..) _).trans (v347_apply c i arg3 harg3 arg4 harg4 arg5 harg5 arg6 harg6 arg7 harg7 arg8 harg8 arg9 harg9 arg10 harg10 arg11 harg11 arg12 harg12 arg13 harg13 x0 x2 x3 x4 hx ρ a l)
  unfold kernelRun0_A.sl.v370 kernelRun0_A.sl.v368 kernelRun0_A.sl.v369 kernelRun0_A.sl.v362 kernelRun0_A.sl.v367 kernelRun0_A.sl.v366 kernelRun0_A.sl.v361 kernelRun0_A.sl.v360 kernelRun0_A.sl.v359
  pointwise
  have hc : kernelRun0_A.sl.cst_153 (F := Ideal) = ((1 / 256 : ℝ) : EReal) := inv256
  rw [h1, r9_eq c i arg4 harg4 x1, hc]
  have h3 : (∑ l : Fin 128, kernelRun0_A.sl.v358 (F := Ideal) c i arg3 harg3 arg4 harg4 arg5 harg5 arg6 harg6 arg7 harg7 arg8 harg8 arg9 harg9 arg10 harg10 arg11 harg11 arg12 harg12 arg13 harg13 x0 x2 x3 x4 (ix2 (rowOf ρ a) l)) = ∑ k ∈ Finset.range 8192, wOf i x0 x2 x3 ρ a k := by
    simp only [h2]
    rw [Fin.sum_univ_eq_sum_range (fun l => ∑ t ∈ Finset.range (4 * ((i 2).val / 4 + 1)), wOf i x0 x2 x3 ρ a (128 * t + l)) 128, Finset.sum_comm, ← sum_groups]
    exact sum_kW_short _ _ _ _ (by omega) (by have ha := a.isLt; omega)
  refine (congrArg (fun s => Ideal.div _ (s * _)) h3).trans ?_
  exact congrArg (fun s => Ideal.div (s * _) _) (sum_sat_short _ _ _ _ _ (by omega) (by have ha := a.isLt; omega))

end Cert.Attn

end
-- ==== Proof.Block.lean ====
module

public import proofs.«01_k».proof.Proof.RunSum

@[expose] public section

set_option maxRecDepth 16384

noncomputable section

namespace Cert.Attn

open Idealize.ShloMosaic Cert.KernelIdeal Cert.KernelIdeal.Gen

/-- What one grid point's output block holds: the attention output of each head of the group at each of the block's
queries. -/
def outTile (i : grid0.Coords) (x0 : Vec Ideal S2x8 .f32) (x1 : Vec Ideal S2 .f32) (x2 : Vec Ideal S1x128x2048 .fp8e4m3)
    (x3 x4 : Vec Ideal S1x8192x256 .fp8e4m3) : Vec Ideal S1x128x2048 .bf16 := fun y =>
  kOut (x0 (ix2 (gOf i) ⟨(y 2).val / 256, by have h : (y 2).val < 2048 := (y 2).isLt; omega⟩)) (x1 (ix1 (gOf i)))
    (scoreOf x2 x3 ⟨(y 2).val / 256, by have h : (y 2).val < 2048 := (y 2).isLt; omega⟩ (y 1))
    (valueOf x4 ⟨(y 2).val % 256, Nat.mod_lt _ (by omega)⟩) (128 * (i 2).val + (y 1).val)

/-- The rows of one head, as stored. -/
def headRows (o : ℕ) (h : Shape.Slices S1024x256 ![o, 0] S128x256) (v : FVec Ideal S1024x256 .f32) : FVec Ideal S1x128x256 .bf16 :=
  shapeCast S1x128x256 (truncf .bf16 (extractStridedSlice S128x256 ![o, 0] v h) bitsLt_bf16_f32) shapeCasts_S128x256_S1x128x256

/-- An entry of the stored rows of a head. -/
theorem headRows_apply (o : ℕ) (h) (v : FVec Ideal S1024x256 .f32) (z : Fin 1) (a : Fin 128) (d : Fin 256) (ho : o + 128 ≤ 1024) :
    headRows o h v (ix3 z a d) = v (ix2 ⟨o + a.val, by omega⟩ d) := by
  unfold headRows
  pointwise

variable (c : Dev nD) (i : grid0.Coords)
  (arg3 : Memref sig .tc .smem S2x8 .f32) (harg3 : arg3.IsWhole)
  (arg4 : Memref sig .tc .smem S2 .f32) (harg4 : arg4.IsWhole)
  (arg5 : Memref sig .tc .vmem S1x128x2048 .fp8e4m3) (harg5 : arg5.IsWhole)
  (arg6 : Memref sig .tc .vmem S1x8192x256 .fp8e4m3) (harg6 : arg6.IsWhole)
  (arg7 : Memref sig .tc .vmem S1x8192x256 .fp8e4m3) (harg7 : arg7.IsWhole)
  (arg8 : Memref sig .tc .vmem S1x128x2048 .bf16) (harg8 : arg8.IsWhole)
  (arg9 : Memref sig .tc .vmem S1024x256 .fp8e4m3) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x256 .f32) (harg13 : arg13.IsWhole)

variable (x0 : Vec Ideal S2x8 .f32) (x1 : Vec Ideal S2 .f32) (x2 : Vec Ideal S1x128x2048 .fp8e4m3) (x3 x4 : Vec Ideal S1x8192x256 .fp8e4m3)

/-- One stored piece of the output block. -/
theorem outPiece (hx : ∀ ρ : Fin 8, 0 ≤ x0 (ix2 (gOf i) ρ)) (ρ : Fin 8) (h : Shape.Slices S1024x256 ![128 * ρ.val, 0] S128x256)
    (inb : ∀ a : Fin 3, (![0, 0, 256 * ρ.val] : Fin 3 → ℕ) a + S1x128x256.size a ≤ S1x128x2048.size a) (z : S1x128x256.Idx) :
    headRows (128 * ρ.val) h (kernelRun0_A.sl.v370 (F := Ideal) c i arg3 harg3 arg4 harg4 arg5 harg5 arg6 harg6 arg7 harg7 arg8 harg8 arg9 harg9 arg10 harg10 arg11 harg11 arg12 harg12 arg13 harg13 x0 x1 x2 x3 x4) z
      = outTile i x0 x1 x2 x3 x4 ((Rect.unit (s := S1x128x2048) ![0, 0, 256 * ρ.val] S1x128x256.size inb).emb z) := by
  obtain ⟨z0, a, d, rfl⟩ : ∃ (z0 : Fin 1) (a : Fin 128) (d : Fin 256), z = ix3 z0 a d := ⟨z 0, z 1, z 2, eq_ix3 z⟩
  refine (headRows_apply _ _ _ _ _ _ (by omega)).trans ((v370_apply c i arg3 harg3 arg4 harg4 arg5 harg5 arg6 harg6 arg7 harg7 arg8 harg8 arg9 harg9 arg10 harg10 arg11 harg11 arg12 harg12 arg13 harg13 x0 x1 x2 x3 x4 hx ρ a d).trans ?_)
  have e1 : ((Rect.unit (s := S1x128x2048) ![0, 0, 256 * ρ.val] S1x128x256.size inb).emb (ix3 z0 a d) 1) = a := Fin.ext (by show 0 + 1 * a.val = a.val; omega)
  have e2 : ((Rect.unit (s := S1x128x2048) ![0, 0, 256 * ρ.val] S1x128x256.size inb).emb (ix3 z0 a d) 2).val = 256 * ρ.val + 1 * d.val := rfl
  have e3 (h) : (⟨((Rect.unit (s := S1x128x2048) ![0, 0, 256 * ρ.val] S1x128x256.size inb).emb (ix3 z0 a d) 2).val / 256, h⟩ : Fin 8) = ρ := Fin.ext (by show (_ : ℕ) / 256 = ρ.val; rw [e2]; omega)
  have e4 (h) : (⟨((Rect.unit (s := S1x128x2048) ![0, 0, 256 * ρ.val] S1x128x256.size inb).emb (ix3 z0 a d) 2).val % 256, h⟩ : Fin 256) = d := Fin.ext (by show (_ : ℕ) % 256 = d.val; rw [e2]; omega)
  unfold outTile
  rw [e1, e3, e4]

/-- The output block's staging buffer holds the attention outputs. -/
theorem out_apply (hx : ∀ ρ : Fin 8, 0 ≤ x0 (ix2 (gOf i) ρ)) :
    out0_A_5 (F := Ideal) c i arg3 harg3 arg4 harg4 arg5 harg5 arg6 harg6 arg7 harg7 arg8 harg8 arg9 harg9 arg10 harg10 arg11 harg11 arg12 harg12 arg13 harg13 x0 x1 x2 x3 x4 = outTile i x0 x1 x2 x3 x4 := by
  funext y
  unfold out0_A_5
  refine (congrFun (View.read_writes_junk_eq_canon _ _ ) y).trans ?_
  refine View.canon_apply_of_pieces (Val := Elt Ideal) (e := .bf16) (outTile i x0 x1 x2 x3 x4) _ (fun p hp x => ?_) y (cover0_A_5 c i arg3 harg3 arg4 harg4 arg5 harg5 arg6 harg6 arg7 harg7 arg8 harg8 arg9 harg9 arg10 harg10 arg11 harg11 arg12 harg12 arg13 harg13 x0 x1 x2 x3 x4 y)
  unfold kernelRun0_A at hp
  simp only [List.mem_cons, List.not_mem_nil, or_false] at hp
  rcases hp with rfl | rfl | rfl | rfl | rfl | rfl | rfl | rfl
  · exact outPiece c i arg3 harg3 arg4 harg4 arg5 harg5 arg6 harg6 arg7 harg7 arg8 harg8 arg9 harg9 arg10 harg10 arg11 harg11 arg12 harg12 arg13 harg13 x0 x1 x2 x3 x4 hx 7 slices_S1024x256_o896_0_S128x256 inb_S1x128x2048_S1x128x256_0_0_1792 x
  · exact outPiece c i arg3 harg3 arg4 harg4 arg5 harg5 arg6 harg6 arg7 harg7 arg8 harg8 arg9 harg9 arg10 harg10 arg11 harg11 arg12 harg12 arg13 harg13 x0 x1 x2 x3 x4 hx 6 slices_S1024x256_o768_0_S128x256 inb_S1x128x2048_S1x128x256_0_0_1536 x
  · exact outPiece c i arg3 harg3 arg4 harg4 arg5 harg5 arg6 harg6 arg7 harg7 arg8 harg8 arg9 harg9 arg10 harg10 arg11 harg11 arg12 harg12 arg13 harg13 x0 x1 x2 x3 x4 hx 5 slices_S1024x256_o640_0_S128x256 inb_S1x128x2048_S1x128x256_0_0_1280 x
  · exact outPiece c i arg3 harg3 arg4 harg4 arg5 harg5 arg6 harg6 arg7 harg7 arg8 harg8 arg9 harg9 arg10 harg10 arg11 harg11 arg12 harg12 arg13 harg13 x0 x1 x2 x3 x4 hx 4 slices_S1024x256_o512_0_S128x256 inb_S1x128x2048_S1x128x256_0_0_1024 x
  · exact outPiece c i arg3 harg3 arg4 harg4 arg5 harg5 arg6 harg6 arg7 harg7 arg8 harg8 arg9 harg9 arg10 harg10 arg11 harg11 arg12 harg12 arg13 harg13 x0 x1 x2 x3 x4 hx 3 slices_S1024x256_o384_0_S128x256 inb_S1x128x2048_S1x128x256_0_0_768 x
  · exact outPiece c i arg3 harg3 arg4 harg4 arg5 harg5 arg6 harg6 arg7 harg7 arg8 harg8 arg9 harg9 arg10 harg10 arg11 harg11 arg12 harg12 arg13 harg13 x0 x1 x2 x3 x4 hx 2 slices_S1024x256_o256_0_S128x256 inb_S1x128x2048_S1x128x256_0_0_512 x
  · exact outPiece c i arg3 harg3 arg4 harg4 arg5 harg5 arg6 harg6 arg7 harg7 arg8 harg8 arg9 harg9 arg10 harg10 arg11 harg11 arg12 harg12 arg13 harg13 x0 x1 x2 x3 x4 hx 1 slices_S1024x256_o128_0_S128x256 inb_S1x128x2048_S1x128x256_0_0_256 x
  · exact outPiece c i arg3 harg3 arg4 harg4 arg5 harg5 arg6 harg6 arg7 harg7 arg8 harg8 arg9 harg9 arg10 harg10 arg11 harg11 arg12 harg12 arg13 harg13 x0 x1 x2 x3 x4 hx 0 slices_S1024x256_o0_0_S128x256 inb_S1x128x2048_S1x128x256_0_0_0 x

end Cert.Attn

end
-- ==== Proof.Spec.lean ====
module

public import proofs.«01_k».proof.Proof.Math
public import Idealize.ShloMosaic.Lib.Pointwise

@[expose] public section

noncomputable section

namespace Cert.Attn

open Idealize.ShloMosaic

/-- Arrays of extended reals over a shape. -/
abbrev Arr1 (n : ℕ) : Type := Shape.Idx ⟨1, ![n]⟩ → EReal
/-- Arrays of extended reals with three axes. -/
abbrev Arr3 (a b c : ℕ) : Type := Shape.Idx ⟨3, ![a, b, c]⟩ → EReal

variable (X : Arr3 8 8192 4096) (K V : Arr3 8 8192 512) (qs : Arr1 16) (ks vs : Arr1 2)

/-- The dot product of query `s` with key `k` in the head that output column `e` belongs to: head `e / 256`, whose key
head is `e / 2048`. -/
def dotQK (b : Fin 8) (s : Fin 8192) (e : Fin 4096) (k : ℕ) : EReal :=
  ∑ d : Fin 256, X (ix3 b s ⟨256 * (e.val / 256) + d.val, by omega⟩) * K (ix3 b ⟨k % 8192, Nat.mod_lt _ (by omega)⟩ ⟨256 * (e.val / 2048) + d.val, by omega⟩)

/-- The component of value `k` that output column `e` weighs. -/
def valAt (b : Fin 8) (e : Fin 4096) (k : ℕ) : EReal :=
  V (ix3 b ⟨k % 8192, Nat.mod_lt _ (by omega)⟩ ⟨256 * (e.val / 2048) + e.val % 256, by omega⟩)

/-- The product of the scales of column `e`'s head. -/
def scaleProd (e : Fin 4096) : EReal := qs (ix1 ⟨e.val / 256, by omega⟩) * ks (ix1 ⟨e.val / 2048, by omega⟩)

/-- The factor on the scores of column `e`'s head: the scales and 1/16. -/
def scoreScale (e : Fin 4096) : EReal := scaleProd qs ks e * Ideal.ofBits .f32 0x3D800000#32

/-- The array that the kernel computes. -/
def kernelArr : Arr3 8 8192 4096 := fun y =>
  kOut (scoreScale qs ks (y 2)) (vs (ix1 ⟨(y 2).val / 2048, by have h : (y 2).val < 4096 := (y 2).isLt; omega⟩)) (dotQK X K (y 0) (y 1) (y 2)) (valAt V (y 0) (y 2)) (y 1).val

/-- The array that the reference computes. -/
def referenceArr : Arr3 8 8192 4096 := fun y =>
  rOut (scoreScale qs ks (y 2)) (vs (ix1 ⟨(y 2).val / 2048, by have h : (y 2).val < 4096 := (y 2).isLt; omega⟩)) (dotQK X K (y 0) (y 1) (y 2)) (valAt V (y 0) (y 2)) (y 1).val

/-- The factor 1/16 is not negative. -/
theorem sixteenth_nonneg : 0 ≤ Ideal.ofBits .f32 0x3D800000#32 := by
  have h : Ideal.ofBits .f32 0x3D800000#32 = ((1 / 16 : ℝ) : EReal) := by
    simp [Ideal.ofBits, Ideal.ieee, -EReal.coe_mul]; norm_num
  rw [h]
  exact_mod_cast (by norm_num : (0 : ℝ) ≤ 1 / 16)

/-- Where no product of scales is negative, the factors on the scores are not negative. -/
theorem scoreScale_nonneg (h : ∀ e : Fin 4096, 0 ≤ scaleProd qs ks e) (e : Fin 4096) : 0 ≤ scoreScale qs ks e :=
  mul_nonneg (h e) sixteenth_nonneg

/-- Where no product of scales is negative, the kernel's array is the reference's. -/
theorem kernelArr_eq_referenceArr (h : ∀ e : Fin 4096, 0 ≤ scaleProd qs ks e) : kernelArr X K V qs ks vs = referenceArr X K V qs ks vs :=
  funext fun y => kOut_eq_rOut _ _ (scoreScale_nonneg qs ks h (y 2)) _ _ _

end Cert.Attn

end
-- ==== Proof.KernelArray.lean ====
module

public import proofs.«01_k».proof.Proof.Block
public import proofs.«01_k».proof.Proof.Spec
public import Idealize.ShloMosaic.Lib.Pipeline.ValueKit

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-- The queries. -/
abbrev argX : Arr3 8 8192 4096 := m ((c : Thread nD τ).loc main_arg0)
/-- The keys. -/
abbrev argK : Arr3 8 8192 512 := m ((c : Thread nD τ).loc main_arg1)
/-- The values. -/
abbrev argV : Arr3 8 8192 512 := m ((c : Thread nD τ).loc main_arg2)
/-- The query scales. -/
abbrev argQs : Arr1 16 := m ((c : Thread nD τ).loc main_arg3)
/-- The key scales. -/
abbrev argKs : Arr1 2 := m ((c : Thread nD τ).loc main_arg4)
/-- The value scales. -/
abbrev argVs : Arr1 2 := m ((c : Thread nD τ).loc main_arg5)

/-- The scale array that the host hands the kernel. -/
def hostScales : Vec Ideal S2x8 .f32 :=
  mulf (F := Ideal) (φ := .f32) (mulf (F := Ideal) (φ := .f32) (shapeCast S2x8 (argQs m c) shapeCasts_S16_S2x8) (broadcastInDim S2x8 ![0, 1] bcast_S2x1_S2x8_0_1 (broadcastInDim S2x1 ![0] bcast_S2_S2x1_0 (argKs m c))))
    (broadcastInDim S2x8 ![] bcast_S_S2x8 (constant (F := Ideal) S_ .f32 0x3D800000#32))

/-- The kernel region starts with that array in the scales' buffer. -/
theorem scales_eq : V m c main_v5 = hostScales m c := by
  unfold_abbrev_sides
  after_results
  rfl

/-- That array at a head. -/
theorem hostScales_apply (g : Fin 2) (ρ : Fin 8) :
    hostScales m c (ix2 g ρ) = argQs m c (ix1 ⟨8 * g.val + ρ.val, by omega⟩) * argKs m c (ix1 g) * Ideal.ofBits .f32 0x3D800000#32 := by
  unfold hostScales
  pointwise
  have e : (⟨g.val * 8 + ρ.val, by omega⟩ : Fin 16) = ⟨8 * g.val + ρ.val, by omega⟩ := Fin.ext (by show g.val * 8 + ρ.val = 8 * g.val + ρ.val; omega)
  rw [e]

/-- The index maps of the windows. -/
theorem idx_facts (t : Fin cfg0.N) : win0_0.index t = ![0, 0] ∧ win0_1.index t = ![0] ∧ win0_2.index t = ![(grid0.coords t 0).val, (grid0.coords t 2).val, (grid0.coords t 1).val]
    ∧ win0_3.index t = ![(grid0.coords t 0).val, 0, (grid0.coords t 1).val] ∧ win0_4.index t = ![(grid0.coords t 0).val, 0, (grid0.coords t 1).val]
    ∧ win0_5.index t = ![(grid0.coords t 0).val, (grid0.coords t 2).val, (grid0.coords t 1).val] := by
  revert t
  decide +kernel

/-- Each element of the output array lies in a block that is written back. -/
theorem out_covers : (cfg0.win 5).Covers := by decide +kernel

/-- The query block of a grid point. -/
theorem blkX (t : Fin cfg0.N) (a : Fin 128) (e : Fin 2048) :
    (iblk m c 2 t : S1x128x2048.Idx → EReal) (ix3 0 a e) = argX m c (ix3 ⟨(grid0.coords t 0).val, (grid0.coords t 0).isLt⟩
      ⟨128 * (grid0.coords t 2).val + a.val, by have h : (grid0.coords t 2).val < 64 := (grid0.coords t 2).isLt; omega⟩
      ⟨2048 * (grid0.coords t 1).val + e.val, by have h : (grid0.coords t 1).val < 2 := (grid0.coords t 1).isLt; omega⟩) := by
  have h := (idx_facts t).2.2.1
  blk_ext [iblk, V_main_arg0, h]

/-- The key block of a grid point. -/
theorem blkK (t : Fin cfg0.N) (k : Fin 8192) (d : Fin 256) :
    (iblk m c 3 t : S1x8192x256.Idx → EReal) (ix3 0 k d) = argK m c (ix3 ⟨(grid0.coords t 0).val, (grid0.coords t 0).isLt⟩ k
      ⟨256 * (grid0.coords t 1).val + d.val, by have h : (grid0.coords t 1).val < 2 := (grid0.coords t 1).isLt; omega⟩) := by
  have h := (idx_facts t).2.2.2.1
  blk_ext [iblk, V_main_arg1, h]

/-- The value block of a grid point. -/
theorem blkV (t : Fin cfg0.N) (k : Fin 8192) (d : Fin 256) :
    (iblk m c 4 t : S1x8192x256.Idx → EReal) (ix3 0 k d) = argV m c (ix3 ⟨(grid0.coords t 0).val, (grid0.coords t 0).isLt⟩ k
      ⟨256 * (grid0.coords t 1).val + d.val, by have h : (grid0.coords t 1).val < 2 := (grid0.coords t 1).isLt; omega⟩) := by
  have h := (idx_facts t).2.2.2.2.1
  blk_ext [iblk, V_main_arg2, h]

/-- The value scales that a grid point sees. -/
theorem blkVs (t : Fin cfg0.N) (g : Fin 2) : (iblk m c 1 t : S2.Idx → EReal) (ix1 g) = argVs m c (ix1 g) := by
  have h := (idx_facts t).2.1
  blk_ext [iblk, V_main_arg5, h]

/-- The scales that a grid point sees. -/
theorem blkScales (t : Fin cfg0.N) (g : Fin 2) (ρ : Fin 8) : (iblk m c 0 t : S2x8.Idx → EReal) (ix2 g ρ) = hostScales m c (ix2 g ρ) := by
  have h := (idx_facts t).1
  have e := scales_eq m c
  rw [← e]
  blk_ext [iblk, h]

/-- The output entry's arguments one by one. -/
theorem kOut_congr {c c' vs vs' : EReal} {S S' V V' : ℕ → EReal} {q q' : ℕ} (h1 : c = c') (h2 : vs = vs') (h3 : S = S') (h4 : V = V') (h5 : q = q') :
    kOut c vs S V q = kOut c' vs' S' V' q' := by
  subst h1 h2 h3 h4 h5; rfl

/-- The block that a grid point leaves is its part of the kernel's array. -/
theorem block_eq (hs : ∀ e : Fin 4096, 0 ≤ scaleProd (argQs m c) (argKs m c) e) (t : Fin cfg0.N) (y : S1x128x2048.Idx) :
    outsAt0 m c t y = kernelArr (argX m c) (argK m c) (argV m c) (argQs m c) (argKs m c) (argVs m c)
      (ix3 ⟨(grid0.coords t 0).val, (grid0.coords t 0).isLt⟩
      ⟨128 * (grid0.coords t 2).val + (y 1).val, by have h : (grid0.coords t 2).val < 64 := (grid0.coords t 2).isLt; have h1 : (y 1).val < 128 := (y 1).isLt; omega⟩
      ⟨2048 * (grid0.coords t 1).val + (y 2).val, by have h : (grid0.coords t 1).val < 2 := (grid0.coords t 1).isLt; have h1 : (y 2).val < 2048 := (y 2).isLt; omega⟩) := by
  have hg : (grid0.coords t 1).val < 2 := (grid0.coords t 1).isLt
  have h1 : (y 1).val < 128 := (y 1).isLt
  have h2 : (y 2).val < 2048 := (y 2).isLt
  have hsc (ρ : Fin 8) : (iblk m c 0 t : S2x8.Idx → EReal) (ix2 (gOf (grid0.coords t)) ρ)
      = scoreScale (argQs m c) (argKs m c) ⟨2048 * (grid0.coords t 1).val + 256 * ρ.val, by omega⟩ := by
    rw [blkScales, hostScales_apply]
    unfold scoreScale scaleProd
    congr 3
    · exact congrArg ix1 (Fin.ext (by show 8 * (grid0.coords t 1).val + ρ.val = (2048 * (grid0.coords t 1).val + 256 * ρ.val) / 256; omega))
    · exact congrArg ix1 (Fin.ext (by show (grid0.coords t 1).val = (2048 * (grid0.coords t 1).val + 256 * ρ.val) / 2048; omega))
  refine (congrFun (out_apply c (grid0.coords t) _ _ _ _ _ _ _ _ _ _ _ _ _ _ _ _ _ _ _ _ _ _ (iblk m c 0 t) (iblk m c 1 t) (iblk m c 2 t) (iblk m c 3 t) (iblk m c 4 t) fun ρ => ?_) y).trans ?_
  · rw [hsc]; exact scoreScale_nonneg _ _ hs _
  unfold outTile kernelArr
  rw [hsc]
  have e0 : scoreScale (argQs m c) (argKs m c) ⟨2048 * (grid0.coords t 1).val + 256 * ((y 2).val / 256), by omega⟩ = scoreScale (argQs m c) (argKs m c) ⟨2048 * (grid0.coords t 1).val + (y 2).val, by omega⟩ := by
    unfold scoreScale scaleProd
    congr 3
    · exact congrArg ix1 (Fin.ext (by show (2048 * (grid0.coords t 1).val + 256 * ((y 2).val / 256)) / 256 = (2048 * (grid0.coords t 1).val + (y 2).val) / 256; omega))
    · exact congrArg ix1 (Fin.ext (by show (2048 * (grid0.coords t 1).val + 256 * ((y 2).val / 256)) / 2048 = (2048 * (grid0.coords t 1).val + (y 2).val) / 2048; omega))
  refine kOut_congr e0 ?_ ?_ ?_ ?_
  · refine (blkVs m c t _).trans (congrArg (fun j => argVs m c (ix1 j)) (Fin.ext ?_))
    show (grid0.coords t 1).val = (2048 * (grid0.coords t 1).val + (y 2).val) / 2048; omega
  · funext k
    unfold scoreOf dotQK
    refine Finset.sum_congr rfl fun d _ => ?_
    refine congrArg₂ (· * ·) ((blkX m c t _ _).trans (congrArg (argX m c) (congrArg₂ (ix3 _) rfl (Fin.ext ?_)))) ((blkK m c t _ _).trans (congrArg (argK m c) (congrArg₂ (ix3 _) rfl (Fin.ext ?_))))
    · show 2048 * (grid0.coords t 1).val + (256 * ((y 2).val / 256) + d.val) = 256 * ((2048 * (grid0.coords t 1).val + (y 2).val) / 256) + d.val; omega
    · show 256 * (grid0.coords t 1).val + d.val = 256 * ((2048 * (grid0.coords t 1).val + (y 2).val) / 2048) + d.val; omega
  · funext k
    unfold valueOf valAt
    refine (blkV m c t _ _).trans (congrArg (argV m c) (congrArg₂ (ix3 _) rfl (Fin.ext ?_)))
    show 256 * (grid0.coords t 1).val + (y 2).val % 256 = 256 * ((2048 * (grid0.coords t 1).val + (y 2).val) / 2048) + (2048 * (grid0.coords t 1).val + (y 2).val) % 256; omega
  · rfl

/-- The output array after the run. -/
theorem kernel_array (hs : ∀ e : Fin 4096, 0 ≤ scaleProd (argQs m c) (argKs m c) e) :
    (dats m 0 c).arrAt 5 cfg0.N = kernelArr (argX m c) (argK m c) (argV m c) (argQs m c) (argKs m c) (argVs m c) := by
  refine (dats m 0 c).arrAt_eq_of_covers 5 _ out_covers fun t hf y => ?_
  blk_simp
  rw [after0_5]
  refine (block_eq m c hs t y).trans ?_
  have h := (idx_facts t).2.2.2.2.2
  blk_ext [h]

end Cert.Attn

end
-- ==== Proof.RefValue.lean ====
module

public import proofs.«01_k».proof.Proof.Gen.ReferenceIdeal.Value
public import proofs.«01_k».proof.Proof.RunSum
public import proofs.«01_k».proof.Proof.Spec

@[expose] public section

set_option maxRecDepth 16384

noncomputable section

namespace Cert.Attn

open Idealize.ShloMosaic Cert.ReferenceIdeal Cert.ReferenceIdeal.Gen

variable (X : Vec Ideal S8x8192x4096 .fp8e4m3) (K V : Vec Ideal S8x8192x512 .fp8e4m3) (C : Vec Ideal S2x8 .f32) (vs : Vec Ideal S2 .f32)

/-- The causal mask of key `k` at query `s`. -/
theorem causal (s k : Fin 8192) : IntOp.cmpi .sle (BitVec.ofNat 32 k.val) (BitVec.ofNat 32 s.val) = BitVec.ofBool (decide (k.val ≤ s.val)) := by
  show BitVec.ofBool (BitVec.sle _ _) = _
  congr 1
  rw [BitVec.sle_eq_decide]
  have e (n : Fin 8192) : (BitVec.ofNat 32 n.val).toInt = n.val := by
    rw [BitVec.toInt_eq_toNat_cond, BitVec.toNat_ofNat]
    have := n.isLt
    rw [Nat.mod_eq_of_lt (by omega), if_pos (by omega)]
  rw [e, e]
  simp

/-- The constant 2⁸. -/
theorem c256 : Ideal.ofBits .f32 0x43800000#32 = ((256 : ℝ) : EReal) := by
  simp [Ideal.ofBits, Ideal.ieee, -EReal.coe_mul]; norm_num

/-- The dot product of query `s` with key `k` for head `ρ` of group `g`. -/
def refDot (b : Fin 8) (g : Fin 2) (ρ : Fin 8) (s : Fin 8192) (k : ℕ) : EReal :=
  ∑ d : Fin 256, X (ix3 b s ⟨g.val * 2048 + ρ.val * 256 + d.val, by omega⟩) * K (ix3 b ⟨k % 8192, Nat.mod_lt _ (by omega)⟩ ⟨g.val * 256 + d.val, by omega⟩)

/-- The same dot product, its factors the other way round. -/
def refSum (b : Fin 8) (g : Fin 2) (ρ : Fin 8) (s k : Fin 8192) : EReal :=
  ∑ d : Fin 256, K (ix3 b k ⟨g.val * 256 + d.val, by omega⟩) * X (ix3 b s ⟨g.val * 2048 + ρ.val * 256 + d.val, by omega⟩)

/-- The two dot products are equal. -/
theorem refDot_eq (b : Fin 8) (g : Fin 2) (ρ : Fin 8) (s k : Fin 8192) : refSum X K b g ρ s k = refDot X K b g ρ s k.val := by
  refine Finset.sum_congr rfl fun d _ => ?_
  have e : (⟨k.val % 8192, Nat.mod_lt _ (by omega)⟩ : Fin 8192) = k := Fin.ext (Nat.mod_eq_of_lt k.isLt)
  rw [e]
  exact mul_comm (G := EReal) _ _

/-- The softmax numerators of the reference. -/
theorem ref_weight (b : Fin 8) (g : Fin 2) (ρ : Fin 8) (s k : Fin 8192) :
    k0_pay2 (F := Ideal) X K C (ix5 b g ρ s k) = rW (C (ix2 g ρ)) (refDot X K b g ρ s) s.val k.val := by
  unfold k0_pay2
  pointwise
  simp only [causal, select_ofBool, ninf]
  show Ideal.exp ((if k.val ≤ s.val then refSum X K b g ρ s k * C (ix2 g ρ) else ⊥) - Finset.fold max ⊥ (fun k => if k.val ≤ s.val then refSum X K b g ρ s k * C (ix2 g ρ) else ⊥) Finset.univ) = _
  simp only [refDot_eq]
  rw [fold_max_sup, univ_sup (fun k => if k ≤ s.val then refDot X K b g ρ s k * C (ix2 g ρ) else ⊥)]
  rfl

/-- The denominators of the reference. -/
theorem ref_den (b : Fin 8) (g : Fin 2) (ρ : Fin 8) (s : Fin 8192) :
    multiReduction (F := Ideal) (φ := .f32) .add [4] S8x2x8x8192 (k0_pay2 X K C) 0x00000000#32 reduces_S8x2x8x8192x8192_S8x2x8x8192 (.inl rfl) rfl (ix4 b g ρ s)
      = ∑ k ∈ Finset.range 8192, rW (C (ix2 g ρ)) (refDot X K b g ρ s) s.val k := by
  pointwise
  simp only [ref_weight]
  exact Fin.sum_univ_eq_sum_range (fun k => rW (C (ix2 g ρ)) (refDot X K b g ρ s) s.val k) 8192

/-- The weighted sums of the reference. -/
theorem ref_acc (b : Fin 8) (s : Fin 8192) (g : Fin 2) (ρ : Fin 8) (d : Fin 256) :
    k0_pay4 (F := Ideal) X K V C (ix5 b s g ρ d)
      = ∑ k ∈ Finset.range 8192, sat (rW (C (ix2 g ρ)) (refDot X K b g ρ s) s.val k * (256 : ℝ)) * V (ix3 b ⟨k % 8192, Nat.mod_lt _ (by omega)⟩ ⟨g.val * 256 + d.val, by omega⟩) := by
  unfold k0_pay4
  pointwise
  simp only [ref_weight, n448, p448, c256]
  rw [← Fin.sum_univ_eq_sum_range (fun k => sat (rW (C (ix2 g ρ)) (refDot X K b g ρ s) s.val k * (256 : ℝ)) * V (ix3 b ⟨k % 8192, Nat.mod_lt _ (by omega)⟩ ⟨g.val * 256 + d.val, by omega⟩)) 8192]
  refine Finset.sum_congr rfl fun k _ => ?_
  have e : (⟨k.val % 8192, Nat.mod_lt _ (by omega)⟩ : Fin 8192) = k := Fin.ext (Nat.mod_eq_of_lt k.isLt)
  rw [e]
  exact mul_comm (G := EReal) _ _

/-- An element of the reference's output block, from the scale words. -/
theorem ref_entry (b : Fin 8) (s : Fin 8192) (e : Fin 4096) :
    Cert.ReferenceIdeal.Value.E5 (F := Ideal) X K V C vs (ix3 b s e)
      = rOut (C (ix2 ⟨e.val / 2048, by omega⟩ ⟨e.val / 256 % 8, by omega⟩)) (vs (ix1 ⟨e.val / 2048, by omega⟩)) (dotQK X K b s e) (valAt V b e) s.val := by
  have e0 : Cert.ReferenceIdeal.Value.ix5_0 (ix3 b s e) = ix5 b s ⟨e.val / 2048, by omega⟩ ⟨e.val / 256 % 8, by omega⟩ ⟨e.val % 256, by omega⟩ :=
    funext fun a => by fin_cases a <;> rfl
  have e1 : Cert.ReferenceIdeal.Value.ix5_1 (ix3 b s e) = ix1 ⟨e.val / 2048, by omega⟩ := funext fun a => by fin_cases a; rfl
  have e3 : Cert.ReferenceIdeal.Value.ix5_3 (ix3 b s e) = ix4 b ⟨e.val / 2048, by omega⟩ ⟨e.val / 256 % 8, by omega⟩ s := funext fun a => by fin_cases a <;> rfl
  have h6 (j) : k0_pay6 (F := Ideal) j = ((1 / 256 : ℝ) : EReal) := inv256
  have hd : refDot X K b ⟨e.val / 2048, by omega⟩ ⟨e.val / 256 % 8, by omega⟩ s = dotQK X K b s e := by
    funext k
    refine Finset.sum_congr rfl fun d _ => ?_
    refine congrArg₂ (· * ·) (congrArg X (congrArg (ix3 b s) (Fin.ext ?_))) (congrArg K (congrArg (ix3 b _) (Fin.ext ?_)))
    · show e.val / 2048 * 2048 + e.val / 256 % 8 * 256 + d.val = 256 * (e.val / 256) + d.val; omega
    · show e.val / 2048 * 256 + d.val = 256 * (e.val / 2048) + d.val; omega
  show Ideal.div (k0_pay4 (F := Ideal) X K V C (Cert.ReferenceIdeal.Value.ix5_0 (ix3 b s e)) * (vs (Cert.ReferenceIdeal.Value.ix5_1 (ix3 b s e)) * k0_pay6 (F := Ideal) _))
    (multiReduction (F := Ideal) (φ := .f32) .add [4] S8x2x8x8192 (k0_pay2 X K C) 0x00000000#32 reduces_S8x2x8x8192x8192_S8x2x8x8192 (.inl rfl) rfl (Cert.ReferenceIdeal.Value.ix5_3 (ix3 b s e))) = _
  rw [e0, e1, e3, ref_acc, ref_den, h6, hd]
  unfold rOut
  have hv (k : ℕ) : V (ix3 b ⟨k % 8192, Nat.mod_lt _ (by omega)⟩ ⟨e.val / 2048 * 256 + e.val % 256, by omega⟩) = valAt V b e k :=
    congrArg V (congrArg (ix3 b _) (Fin.ext (by show e.val / 2048 * 256 + e.val % 256 = 256 * (e.val / 2048) + e.val % 256; omega)))
  simp only [hv]

end Cert.Attn

end
-- ==== Proof.ReferenceArray.lean ====
module

public import proofs.«01_k».proof.Proof.RefValue
public import Idealize.ShloMosaic.Lib.Pipeline.ValueKit

@[expose] public section

set_option maxRecDepth 16384

noncomputable section

namespace Cert.Attn.Ref

open Idealize.ShloMosaic Idealize.ShloMosaic.TcCoe Cert.ReferenceIdeal Cert.ReferenceIdeal.Gen

variable (m : (ℓ : Loc nD τ sig) → Buf (Elt Ideal) ℓ) (c : Dev nD)

/-- The queries. -/
abbrev argX : Arr3 8 8192 4096 := m ((c : Thread nD τ).loc main_arg0)
/-- The keys. -/
abbrev argK : Arr3 8 8192 512 := m ((c : Thread nD τ).loc main_arg1)
/-- The values. -/
abbrev argV : Arr3 8 8192 512 := m ((c : Thread nD τ).loc main_arg2)
/-- The query scales. -/
abbrev argQs : Arr1 16 := m ((c : Thread nD τ).loc main_arg3)
/-- The key scales. -/
abbrev argKs : Arr1 2 := m ((c : Thread nD τ).loc main_arg4)
/-- The value scales. -/
abbrev argVs : Arr1 2 := m ((c : Thread nD τ).loc main_arg5)

/-- The scale array that the host hands the reference's body. -/
def hostScales : Vec Ideal S2x8 .f32 :=
  mulf (F := Ideal) (φ := .f32) (mulf (F := Ideal) (φ := .f32) (shapeCast S2x8 (argQs m c) shapeCasts_S16_S2x8) (broadcastInDim S2x8 ![0, 1] bcast_S2x1_S2x8_0_1 (broadcastInDim S2x1 ![0] bcast_S2_S2x1_0 (argKs m c))))
    (broadcastInDim S2x8 ![] bcast_S_S2x8 (constant (F := Ideal) S_ .f32 0x3D800000#32))

/-- The body starts with that array in the scales' buffer. -/
theorem scales_eq : V m c main_v5 = hostScales m c := by
  unfold_abbrev_sides
  after_results
  rfl

/-- That array at the head of an output column is the factor on the column's scores. -/
theorem hostScales_apply (e : Fin 4096) :
    hostScales m c (ix2 ⟨e.val / 2048, by omega⟩ ⟨e.val / 256 % 8, by omega⟩) = scoreScale (argQs m c) (argKs m c) e := by
  unfold hostScales
  pointwise
  unfold scoreScale scaleProd
  congr 3
  exact congrArg ix1 (Fin.ext (by show e.val / 2048 * 8 + e.val / 256 % 8 = e.val / 256; omega))

/-- The index maps of the windows. -/
theorem idx_facts (t : Fin cfg0.N) : win0_0.index t = ![0, 0] ∧ win0_1.index t = ![0] ∧ win0_2.index t = ![0, 0, 0]
    ∧ win0_3.index t = ![0, 0, 0] ∧ win0_4.index t = ![0, 0, 0] ∧ win0_5.index t = ![0, 0, 0] := by
  revert t
  decide +kernel

/-- The one block is the whole output array. -/
theorem out_covers : (cfg0.win 5).Covers := by decide +kernel

/-- The body reads the whole array of queries. -/
theorem ldX (t : Fin cfg0.N) : View.ld (iblk m c 2 t : S8x8192x4096.Idx → EReal) r0_0 = argX m c := by
  have h := (idx_facts t).2.2.1
  funext y
  refine View.ld_unit_apply_of _ _ _ _ y y (fun a => by fin_cases a <;> exact (Nat.zero_add _).symm) |>.trans ?_
  blk_ext [iblk, V_main_arg0, h]

/-- The body reads the whole array of keys. -/
theorem ldK (t : Fin cfg0.N) : View.ld (iblk m c 3 t : S8x8192x512.Idx → EReal) r0_1 = argK m c := by
  have h := (idx_facts t).2.2.2.1
  funext y
  refine View.ld_unit_apply_of _ _ _ _ y y (fun a => by fin_cases a <;> exact (Nat.zero_add _).symm) |>.trans ?_
  blk_ext [iblk, V_main_arg1, h]

/-- The body reads the whole array of values. -/
theorem ldV (t : Fin cfg0.N) : View.ld (iblk m c 4 t : S8x8192x512.Idx → EReal) r0_1 = argV m c := by
  have h := (idx_facts t).2.2.2.2.1
  funext y
  refine View.ld_unit_apply_of _ _ _ _ y y (fun a => by fin_cases a <;> exact (Nat.zero_add _).symm) |>.trans ?_
  blk_ext [iblk, V_main_arg2, h]

/-- The body reads the whole array of value scales. -/
theorem ldVs (t : Fin cfg0.N) : View.ld (iblk m c 1 t : S2.Idx → EReal) r0_3 = argVs m c := by
  have h := (idx_facts t).2.1
  funext y
  refine View.ld_unit_apply_of _ _ _ _ y y (fun a => by fin_cases a <;> exact (Nat.zero_add _).symm) |>.trans ?_
  blk_ext [iblk, V_main_arg5, h]

/-- The body reads the whole scale array. -/
theorem ldScales (t : Fin cfg0.N) : View.ld (iblk m c 0 t : S2x8.Idx → EReal) r0_2 = hostScales m c := by
  have h := (idx_facts t).1
  funext y
  refine View.ld_unit_apply_of _ _ _ _ y y (fun a => by fin_cases a <;> exact (Nat.zero_add _).symm) |>.trans ?_
  rw [← scales_eq m c]
  blk_ext [iblk, h]

/-- The body leaves the reference's array. -/
theorem block_eq (t : Fin cfg0.N) :
    out0_5 (iblk m c 0 t) (iblk m c 1 t) (iblk m c 2 t) (iblk m c 3 t) (iblk m c 4 t) = referenceArr (argX m c) (argK m c) (argV m c) (argQs m c) (argKs m c) (argVs m c) := by
  funext y
  unfold out0_5
  refine (Cert.ReferenceIdeal.Value.canon5_eq (F := Ideal) _ _ _ _ _ y).trans ?_
  rw [ldX, ldK, ldV, ldVs, ldScales]
  obtain ⟨b, s, e, rfl⟩ : ∃ (b : Fin 8) (s : Fin 8192) (e : Fin 4096), y = ix3 b s e := ⟨y 0, y 1, y 2, eq_ix3 y⟩
  refine (ref_entry _ _ _ _ _ b s e).trans ?_
  rw [hostScales_apply]
  rfl

/-- The output array after the run. -/
theorem reference_array : (dats m 0 c).arrAt 5 cfg0.N = referenceArr (argX m c) (argK m c) (argV m c) (argQs m c) (argKs m c) (argVs m c) := by
  refine (dats m 0 c).arrAt_eq_of_covers 5 _ out_covers fun t hf y => ?_
  blk_simp
  rw [after0_5]
  refine (congrFun (block_eq m c t) y).trans ?_
  have h := (idx_facts t).2.2.2.2.2
  blk_ext [h]

end Cert.Attn.Ref

end
-- ==== Proof.Positive.lean ====
module

public import proofs.«01_k».proof.Proof.KernelArray
public import proofs.«01_k».proof.Proof.Gen.Pre_pre

@[expose] public section

noncomputable section

namespace Cert.Attn

open Idealize.ShloMosaic

/-- Under the precondition no product of a head's scales is negative. -/
theorem scaleProd_nonneg (X : Arr3 8 8192 4096) (K V : Arr3 8 8192 512) (qs : Arr1 16) (ks vs : Arr1 2)
    (h : Cert.Pre_pre.fn (F := Ideal) X K V qs ks vs = fun _ => 1#1) (e : Fin 4096) : 0 ≤ scaleProd qs ks e := by
  have h' := congrFun h (ix2 ⟨e.val / 2048, by omega⟩ ⟨e.val / 256 % 8, by omega⟩)
  unfold Cert.Pre_pre.fn at h'
  pointwise at h'
  have e0 : (⟨e.val / 2048 * 8 + e.val / 256 % 8, by omega⟩ : Fin 16) = ⟨e.val / 256, by omega⟩ := Fin.ext (by show e.val / 2048 * 8 + e.val / 256 % 8 = e.val / 256; omega)
  rw [e0] at h'
  by_contra hn
  have hd : decide (0 ≤ qs (ix1 ⟨e.val / 256, by omega⟩) * ks (ix1 ⟨e.val / 2048, by omega⟩)) = false := decide_eq_false hn
  rw [hd] at h'
  exact absurd h' (by decide)

end Cert.Attn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Value
public import proofs.«01_k».proof.Proof.Gen.Pre_pre
public import proofs.«01_k».proof.Proof.KernelArray
public import proofs.«01_k».proof.Proof.ReferenceArray
public import proofs.«01_k».proof.Proof.Positive
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_pre.Gen.facts,
   fun m ρ _ => Cert.Kernel.Gen.frame m ρ, fun m ρ _ => Cert.KernelIdeal.Gen.frame m ρ, fun m ρ _ => Cert.KernelIdeal.Gen.frame m ρ,
   fun m ρ _ => Cert.ReferenceIdeal.Gen.frame m ρ, fun m ρ _ => Cert.ReferenceIdeal.Gen.frame m ρ,
   ⟨IdealRules.named_const.statement Cert.KernelIdeal.κ "log2e" .f32 0x3FB8AA3B#32 (((Real.log 2)⁻¹ : ℝ) : EReal) rfl,
    IdealRules.named_const.statement Cert.KernelIdeal.κ "log2p" .f32 0x41000000#32 ((8 : ℝ) : EReal) rfl⟩,
   fun m g m' g' hpre hagree => by
    have hs (c : Dev Cert.KernelIdeal.nD) (e : Fin 4096) : 0 ≤ Cert.Attn.scaleProd (Cert.Attn.argQs m c) (Cert.Attn.argKs m c) e :=
      Cert.Attn.scaleProd_nonneg _ _ _ _ _ _ (hpre c) e
    refine ⟨fun c => Cert.Attn.kernelArr (Cert.Attn.argX m c) (Cert.Attn.argK m c) (Cert.Attn.argV m c) (Cert.Attn.argQs m c) (Cert.Attn.argKs m c) (Cert.Attn.argVs m c), ?_, ?_⟩
    · exact (θ_run _ _ _).mono (fun r h c => ⟨(h c).1.trans (Cert.Attn.kernel_array m c (hs c)), (h c).2⟩) (Cert.KernelIdeal.Value.run_blocks m g)
    · refine (θ_run _ _ _).mono (fun r h c => ⟨(h c).1.trans ((Cert.Attn.Ref.reference_array m' c).trans ?_), (h c).2⟩) (Cert.ReferenceIdeal.Value.run_blocks m' g')
      obtain ⟨h0, h1, h2, h3, h4, h5⟩ := hagree c
      refine Eq.trans ?_ (Cert.Attn.kernelArr_eq_referenceArr _ _ _ _ _ _ (hs c)).symm
      unfold Cert.Attn.Ref.argX Cert.Attn.Ref.argK Cert.Attn.Ref.argV Cert.Attn.Ref.argQs Cert.Attn.Ref.argKs Cert.Attn.Ref.argVs
      rw [h0, h1, h2, h3, h4, h5]⟩

end Cert.Proof

end
